-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x256 : Shape := ⟨3, ![16, 2048, 256]⟩
abbrev S16 : Shape := ⟨1, ![16]⟩
abbrev S1536x256 : Shape := ⟨2, ![1536, 256]⟩
abbrev S1536 : Shape := ⟨1, ![1536]⟩
abbrev S1280x256 : Shape := ⟨2, ![1280, 256]⟩
abbrev S1280 : Shape := ⟨1, ![1280]⟩
abbrev S16x1 : Shape := ⟨2, ![16, 1]⟩
abbrev S256x1536 : Shape := ⟨2, ![256, 1536]⟩
abbrev S256x1280 : Shape := ⟨2, ![256, 1280]⟩
abbrev S_ : Shape := ⟨0, ![]⟩
abbrev S1 : Shape := ⟨1, ![1]⟩
abbrev S1x1536 : Shape := ⟨2, ![1, 1536]⟩
abbrev S16x256 : Shape := ⟨2, ![16, 256]⟩
abbrev S1x16x256 : Shape := ⟨3, ![1, 16, 256]⟩
abbrev S16x128x256 : Shape := ⟨3, ![16, 128, 256]⟩
abbrev S2048x1536 : Shape := ⟨2, ![2048, 1536]⟩
abbrev S128x16x256 : Shape := ⟨3, ![128, 16, 256]⟩
abbrev S2048x256 : Shape := ⟨2, ![2048, 256]⟩
abbrev S16x1536 : Shape := ⟨2, ![16, 1536]⟩
abbrev S16x128 : Shape := ⟨2, ![16, 128]⟩
abbrev S128x1280 : Shape := ⟨2, ![128, 1280]⟩
abbrev S16x1280 : Shape := ⟨2, ![16, 1280]⟩
abbrev S16x1x256 : Shape := ⟨3, ![16, 1, 256]⟩

abbrev nBuf : Space → Nat
  | .hbm => 19
  | .vmem => 13
  | .smem => 0
  | _ => 0

abbrev bufTy : (tb : Table) → Fin (tcTables nBuf tb) → BufTy
  | .hbm, ⟨0, _⟩ => ⟨S16x2048x256, .f32⟩
  | .hbm, ⟨1, _⟩ => ⟨S16, .i32⟩
  | .hbm, ⟨2, _⟩ => ⟨S1536x256, .f32⟩
  | .hbm, ⟨3, _⟩ => ⟨S1536, .f32⟩
  | .hbm, ⟨4, _⟩ => ⟨S1280x256, .f32⟩
  | .hbm, ⟨5, _⟩ => ⟨S1280, .f32⟩
  | .hbm, ⟨6, _⟩ => ⟨S16x1, .i32⟩
  | .hbm, ⟨7, _⟩ => ⟨S256x1536, .f32⟩
  | .hbm, ⟨8, _⟩ => ⟨S256x1280, .f32⟩
  | .hbm, ⟨9, _⟩ => ⟨S256x1280, .bf16⟩
  | .hbm, ⟨10, _⟩ => ⟨S_, .i32⟩
  | .hbm, ⟨11, _⟩ => ⟨S1, .i32⟩
  | .hbm, ⟨12, _⟩ => ⟨S1536, .f32⟩
  | .hbm, ⟨13, _⟩ => ⟨S1x1536, .f32⟩
  | .hbm, ⟨14, _⟩ => ⟨S16x2048x256, .f32⟩
  | .hbm, ⟨15, _⟩ => ⟨S16x256, .f32⟩
  | .hbm, ⟨16, _⟩ => ⟨S16x256, .f32⟩
  | .hbm, ⟨17, _⟩ => ⟨S1x16x256, .f32⟩
  | .hbm, ⟨18, _⟩ => ⟨S1x16x256, .f32⟩
  | .local _ .vmem, ⟨0, _⟩ => ⟨S16x1, .i32⟩
  | .local _ .vmem, ⟨1, _⟩ => ⟨S16x128x256, .f32⟩
  | .local _ .vmem, ⟨2, _⟩ => ⟨S16x128x256, .f32⟩
  | .local _ .vmem, ⟨3, _⟩ => ⟨S256x1536, .f32⟩
  | .local _ .vmem, ⟨4, _⟩ => ⟨S1x1536, .f32⟩
  | .local _ .vmem, ⟨5, _⟩ => ⟨S256x1280, .bf16⟩
  | .local _ .vmem, ⟨6, _⟩ => ⟨S16x128x256, .f32⟩
  | .local _ .vmem, ⟨7, _⟩ => ⟨S16x128x256, .f32⟩
  | .local _ .vmem, ⟨8, _⟩ => ⟨S16x256, .f32⟩
  | .local _ .vmem, ⟨9, _⟩ => ⟨S16x256, .f32⟩
  | .local _ .vmem, ⟨10, _⟩ => ⟨S2048x1536, .f32⟩
  | .local _ .vmem, ⟨11, _⟩ => ⟨S16x256, .f32⟩
  | .local _ .vmem, ⟨12, _⟩ => ⟨S16x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_c : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_v0_0 : Ref sig .tc := ⟨.hbm, 14, rfl⟩
abbrev main_call0_v7_1 : Ref sig .tc := ⟨.hbm, 15, rfl⟩
abbrev main_call0_v7_2 : Ref sig .tc := ⟨.hbm, 16, rfl⟩
abbrev main_v0_1 : Ref sig .tc := ⟨.hbm, 17, rfl⟩
abbrev main_v0_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_17 : BitVec 32 := 0#32
  let c128_i32 : BitVec 32 := 128#32
  let v22 : BitVec 32 := Scalar.addi c0_i32_17 c128_i32
  let c1_i32 : BitVec 32 := 1#32
  ⟨c0_i32_17, v22, c1_i32⟩
def k0_off1 (k0_t1 : Fin k0_t1_loop.trips) : Fin 2 → Nat :=
  let c0_i32_17 : BitVec 32 := 0#32
  let c1_i32 : BitVec 32 := 1#32
  let arg12 : BitVec 32 := Scf.iv c0_i32_17 c1_i32 k0_t1
  let c16_i32 : BitVec 32 := 16#32
  let v32 : BitVec 32 := Scalar.muli arg12 c16_i32
  let v33 : Index := Scalar.indexCast v32
  let c0_27 : Index := 0#32
  ![v33.toNat, 0]
def k0_off2 (k0_t1 : Fin k0_t1_loop.trips) : Fin 3 → Nat :=
  let c0_45 : Index := 0#32
  let c0_i32_17 : BitVec 32 := 0#32
  let c1_i32 : BitVec 32 := 1#32
  let arg12 : BitVec 32 := Scf.iv c0_i32_17 c1_i32 k0_t1
  let v105 : Index := Scalar.indexCast arg12
  let c0_46 : Index := 0#32
  ![0, v105.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x2048x256 : Shape := ⟨3, ![16, 2048, 256]⟩
abbrev S16 : Shape := ⟨1, ![16]⟩
abbrev S1536x256 : Shape := ⟨2, ![1536, 256]⟩
abbrev S1536 : Shape := ⟨1, ![1536]⟩
abbrev S1280x256 : Shape := ⟨2, ![1280, 256]⟩
abbrev S1280 : Shape := ⟨1, ![1280]⟩
abbrev S2048x16x256 : Shape := ⟨3, ![2048, 16, 256]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S_ : Shape := ⟨0, ![]⟩
abbrev S16x256 : Shape := ⟨2, ![16, 256]⟩
abbrev S1x16x256 : Shape := ⟨3, ![1, 16, 256]⟩
abbrev S256x1536 : Shape := ⟨2, ![256, 1536]⟩
abbrev S16x1536 : Shape := ⟨2, ![16, 1536]⟩
abbrev S1x1536 : Shape := ⟨2, ![1, 1536]⟩
abbrev S256x1280 : Shape := ⟨2, ![256, 1280]⟩
abbrev S16x1280 : Shape := ⟨2, ![16, 1280]⟩
abbrev S1x1280 : Shape := ⟨2, ![1, 1280]⟩
abbrev S16x1 : Shape := ⟨2, ![16, 1]⟩

abbrev nBuf : Space → Nat
  | .hbm => 128
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16, .i32⟩
  | .hbm, ⟨2, _⟩ => ⟨S1536x256, .f32⟩
  | .hbm, ⟨3, _⟩ => ⟨S1536, .f32⟩
  | .hbm, ⟨4, _⟩ => ⟨S1280x256, .f32⟩
  | .hbm, ⟨5, _⟩ => ⟨S1280, .f32⟩
  | .hbm, ⟨6, _⟩ => ⟨S2048x16x256, .f32⟩
  | .hbm, ⟨7, _⟩ => ⟨S2048, .i32⟩
  | .hbm, ⟨8, _⟩ => ⟨S2048x1, .i32⟩
  | .hbm, ⟨9, _⟩ => ⟨S1x16, .i32⟩
  | .hbm, ⟨10, _⟩ => ⟨S2048x16, .i32⟩
  | .hbm, ⟨11, _⟩ => ⟨S2048x16, .i32⟩
  | .hbm, ⟨12, _⟩ => ⟨S2048x16, .i1⟩
  | .hbm, ⟨13, _⟩ => ⟨S_, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S_, .f32⟩
  | .hbm, ⟨18, _⟩ => ⟨S2048x16x256, .f32⟩
  | .hbm, ⟨19, _⟩ => ⟨S_, .i32⟩
  | .hbm, ⟨20, _⟩ => ⟨S2048x16x256, .f32⟩
  | .hbm, ⟨21, _⟩ => ⟨S2048x16, .i1⟩
  | .hbm, ⟨22, _⟩ => ⟨S1536x256, .f32⟩
  | .hbm, ⟨23, _⟩ => ⟨S1536, .f32⟩
  | .hbm, ⟨24, _⟩ => ⟨S1280x256, .f32⟩
  | .hbm, ⟨25, _⟩ => ⟨S1280, .f32⟩
  | .hbm, ⟨26, _⟩ => ⟨S_, .i32⟩
  | .hbm, ⟨27, _⟩ => ⟨S16x256, .f32⟩
  | .hbm, ⟨28, _⟩ => ⟨S16x256, .f32⟩
  | .hbm, ⟨29, _⟩ => ⟨S2048x16x256, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S1x16x256, .f32⟩
  | .hbm, ⟨35, _⟩ => ⟨S16x256, .f32⟩
  | .hbm, ⟨36, _⟩ => ⟨S_, .i32⟩
  | .hbm, ⟨37, _⟩ => ⟨S1x16, .i1⟩
  | .hbm, ⟨38, _⟩ => ⟨S16, .i1⟩
  | .hbm, ⟨39, _⟩ => ⟨S256x1536, .f32⟩
  | .hbm, ⟨40, _⟩ => ⟨S16x1536, .f32⟩
  | .hbm, ⟨41, _⟩ => ⟨S1x1536, .f32⟩
  | .hbm, ⟨42, _⟩ => ⟨S16x1536, .f32⟩
  | .hbm, ⟨43, _⟩ => ⟨S16x1536, .f32⟩
  | .hbm, ⟨44, _⟩ => ⟨S256x1280, .f32⟩
  | .hbm, ⟨45, _⟩ => ⟨S16x1280, .f32⟩
  | .hbm, ⟨46, _⟩ => ⟨S1x1280, .f32⟩
  | .hbm, ⟨47, _⟩ => ⟨S16x1280, .f32⟩
  | .hbm, ⟨48, _⟩ => ⟨S16x1280, .f32⟩
  | .hbm, ⟨49, _⟩ => ⟨S16x256, .f32⟩
  | .hbm, ⟨50, _⟩ => ⟨S16x256, .f32⟩
  | .hbm, ⟨51, _⟩ => ⟨S16x256, .f32⟩
  | .hbm, ⟨52, _⟩ => ⟨S16x256, .f32⟩
  | .hbm, ⟨53, _⟩ => ⟨S16x256, .f32⟩
  | .hbm, ⟨54, _⟩ => ⟨S_, .f32⟩
  | .hbm, ⟨55, _⟩ => ⟨S16x256, .f32⟩
  | .hbm, ⟨56, _⟩ => ⟨S16x256, .f32⟩
  | .hbm, ⟨57, _⟩ => ⟨S_, .f32⟩
  | .hbm, ⟨58, _⟩ => ⟨S16x256, .f32⟩
  | .hbm, ⟨59, _⟩ => ⟨S16x256, .f32⟩
  | .hbm, ⟨60, _⟩ => ⟨S16x256, .f32⟩
  | .hbm, ⟨61, _⟩ => ⟨S16x256, .f32⟩
  | .hbm, ⟨62, _⟩ => ⟨S16x256, .f32⟩
  | .hbm, ⟨63, _⟩ => ⟨S16x256, .f32⟩
  | .hbm, ⟨64, _⟩ => ⟨S16x256, .f32⟩
  | .hbm, ⟨65, _⟩ => ⟨S_, .f32⟩
  | .hbm, ⟨66, _⟩ => ⟨S16x256, .f32⟩
  | .hbm, ⟨67, _⟩ => ⟨S16x256, .f32⟩
  | .hbm, ⟨68, _⟩ => ⟨S_, .f32⟩
  | .hbm, ⟨69, _⟩ => ⟨S16x256, .f32⟩
  | .hbm, ⟨70, _⟩ => ⟨S16x256, .f32⟩
  | .hbm, ⟨71, _⟩ => ⟨S16x256, .f32⟩
  | .hbm, ⟨72, _⟩ => ⟨S16x256, .f32⟩
  | .hbm, ⟨73, _⟩ => ⟨S16x256, .f32⟩
  | .hbm, ⟨74, _⟩ => ⟨S16x256, .f32⟩
  | .hbm, ⟨75, _⟩ => ⟨S16x256, .f32⟩
  | .hbm, ⟨76, _⟩ => ⟨S16x256, .f32⟩
  | .hbm, ⟨77, _⟩ => ⟨S16x256, .f32⟩
  | .hbm, ⟨78, _⟩ => ⟨S16x256, .f32⟩
  | .hbm, ⟨79, _⟩ => ⟨S16x256, .f32⟩
  | .hbm, ⟨80, _⟩ => ⟨S_, .f32⟩
  | .hbm, ⟨81, _⟩ => ⟨S16x256, .f32⟩
  | .hbm, ⟨82, _⟩ => ⟨S16x256, .f32⟩
  | .hbm, ⟨83, _⟩ => ⟨S_, .f32⟩
  | .hbm, ⟨84, _⟩ => ⟨S16x256, .f32⟩
  | .hbm, ⟨85, _⟩ => ⟨S16x256, .f32⟩
  | .hbm, ⟨86, _⟩ => ⟨S16x256, .f32⟩
  | .hbm, ⟨87, _⟩ => ⟨S16x256, .f32⟩
  | .hbm, ⟨88, _⟩ => ⟨S16x256, .f32⟩
  | .hbm, ⟨89, _⟩ => ⟨S16x256, .f32⟩
  | .hbm, ⟨90, _⟩ => ⟨S16x256, .f32⟩
  | .hbm, ⟨91, _⟩ => ⟨S16x256, .f32⟩
  | .hbm, ⟨92, _⟩ => ⟨S16x256, .f32⟩
  | .hbm, ⟨93, _⟩ => ⟨S16x256, .f32⟩
  | .hbm, ⟨94, _⟩ => ⟨S16x256, .f32⟩
  | .hbm, ⟨95, _⟩ => ⟨S16x256, .f32⟩
  | .hbm, ⟨96, _⟩ => ⟨S_, .f32⟩
  | .hbm, ⟨97, _⟩ => ⟨S16x256, .f32⟩
  | .hbm, ⟨98, _⟩ => ⟨S16x256, .f32⟩
  | .hbm, ⟨99, _⟩ => ⟨S_, .f32⟩
  | .hbm, ⟨100, _⟩ => ⟨S16x256, .f32⟩
  | .hbm, ⟨101, _⟩ => ⟨S16x256, .f32⟩
  | .hbm, ⟨102, _⟩ => ⟨S16x256, .f32⟩
  | .hbm, ⟨103, _⟩ => ⟨S_, .f32⟩
  | .hbm, ⟨104, _⟩ => ⟨S16x256, .f32⟩
  | .hbm, ⟨105, _⟩ => ⟨S16x256, .f32⟩
  | .hbm, ⟨106, _⟩ => ⟨S16x256, .f32⟩
  | .hbm, ⟨107, _⟩ => ⟨S16x256, .f32⟩
  | .hbm, ⟨108, _⟩ => ⟨S16x256, .f32⟩
  | .hbm, ⟨109, _⟩ => ⟨S16x1, .i1⟩
  | .hbm, ⟨110, _⟩ => ⟨S16x256, .i1⟩
  | .hbm, ⟨111, _⟩ => ⟨S16x256, .f32⟩
  | .hbm, ⟨112, _⟩ => ⟨S16x256, .i1⟩
  | .hbm, ⟨113, _⟩ => ⟨S16x256, .f32⟩
  | .hbm, ⟨114, _⟩ => ⟨S_, .f32⟩
  | .hbm, ⟨115, _⟩ => ⟨S_, .f32⟩
  | .hbm, ⟨116, _⟩ => ⟨S16x256, .i1⟩
  | .hbm, ⟨117, _⟩ => ⟨S16x256, .f32⟩
  | .hbm, ⟨118, _⟩ => ⟨S16x256, .f32⟩
  | .hbm, ⟨119, _⟩ => ⟨S1x16x256, .f32⟩
  | .hbm, ⟨120, _⟩ => ⟨S_, .i32⟩
  | .hbm, ⟨121, _⟩ => ⟨S_, .i32⟩
  | .hbm, ⟨122, _⟩ => ⟨S2048x16x256, .f32⟩
  | .hbm, ⟨123, _⟩ => ⟨S_, .i32⟩
  | .hbm, ⟨124, _⟩ => ⟨S_, .i32⟩
  | .hbm, ⟨125, _⟩ => ⟨S16x2048x256, .f32⟩
  | .hbm, ⟨126, _⟩ => ⟨S1x16x256, .f32⟩
  | .hbm, ⟨127, _⟩ => ⟨S1x16x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_c : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev main_v10_8 : Ref sig .tc := ⟨.hbm, 28, rfl⟩
abbrev main_v10_9 : Ref sig .tc := ⟨.hbm, 29, rfl⟩
abbrev main_while0c_c_11 : Ref sig .tc := ⟨.hbm, 30, rfl⟩
abbrev main_while0c_v14 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_v0 : Ref sig .tc := ⟨.hbm, 34, rfl⟩
abbrev main_while0b_v14 : Ref sig .tc := ⟨.hbm, 35, rfl⟩
abbrev main_while0b_call1_c : Ref sig .tc := ⟨.hbm, 36, rfl⟩
abbrev main_while0b_call1_v0 : Ref sig .tc := ⟨.hbm, 37, rfl⟩
abbrev main_while0b_v15 : Ref sig .tc := ⟨.hbm, 38, rfl⟩
abbrev main_while0b_v16 : Ref sig .tc := ⟨.hbm, 39, rfl⟩
abbrev main_while0b_v17 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_v21 : Ref sig .tc := ⟨.hbm, 44, rfl⟩
abbrev main_while0b_v22 : Ref sig .tc := ⟨.hbm, 45, rfl⟩
abbrev main_while0b_v23 : Ref sig .tc := ⟨.hbm, 46, rfl⟩
abbrev main_while0b_v24 : Ref sig .tc := ⟨.hbm, 47, rfl⟩
abbrev main_while0b_v25 : Ref sig .tc := ⟨.hbm, 48, rfl⟩
abbrev main_while0b_v26 : Ref sig .tc := ⟨.hbm, 49, rfl⟩
abbrev main_while0b_v27 : Ref sig .tc := ⟨.hbm, 50, rfl⟩
abbrev main_while0b_v28 : Ref sig .tc := ⟨.hbm, 51, rfl⟩
abbrev main_while0b_v29 : Ref sig .tc := ⟨.hbm, 52, rfl⟩
abbrev main_while0b_v30 : Ref sig .tc := ⟨.hbm, 53, rfl⟩
abbrev main_while0b_cst_11 : Ref sig .tc := ⟨.hbm, 54, rfl⟩
abbrev main_while0b_v31 : Ref sig .tc := ⟨.hbm, 55, rfl⟩
abbrev main_while0b_v32 : Ref sig .tc := ⟨.hbm, 56, rfl⟩
abbrev main_while0b_cst_12 : Ref sig .tc := ⟨.hbm, 57, rfl⟩
abbrev main_while0b_v33 : Ref sig .tc := ⟨.hbm, 58, rfl⟩
abbrev main_while0b_v34 : Ref sig .tc := ⟨.hbm, 59, rfl⟩
abbrev main_while0b_v35 : Ref sig .tc := ⟨.hbm, 60, rfl⟩
abbrev main_while0b_v36 : Ref sig .tc := ⟨.hbm, 61, rfl⟩
abbrev main_while0b_v37 : Ref sig .tc := ⟨.hbm, 62, rfl⟩
abbrev main_while0b_v38 : Ref sig .tc := ⟨.hbm, 63, rfl⟩
abbrev main_while0b_v39 : Ref sig .tc := ⟨.hbm, 64, rfl⟩
abbrev main_while0b_cst_13 : Ref sig .tc := ⟨.hbm, 65, rfl⟩
abbrev main_while0b_v40 : Ref sig .tc := ⟨.hbm, 66, rfl⟩
abbrev main_while0b_v41 : Ref sig .tc := ⟨.hbm, 67, rfl⟩
abbrev main_while0b_cst_14 : Ref sig .tc := ⟨.hbm, 68, rfl⟩
abbrev main_while0b_v42 : Ref sig .tc := ⟨.hbm, 69, rfl⟩
abbrev main_while0b_v43 : Ref sig .tc := ⟨.hbm, 70, rfl⟩
abbrev main_while0b_v44 : Ref sig .tc := ⟨.hbm, 71, rfl⟩
abbrev main_while0b_v45 : Ref sig .tc := ⟨.hbm, 72, rfl⟩
abbrev main_while0b_v46 : Ref sig .tc := ⟨.hbm, 73, rfl⟩
abbrev main_while0b_v47 : Ref sig .tc := ⟨.hbm, 74, rfl⟩
abbrev main_while0b_v48 : Ref sig .tc := ⟨.hbm, 75, rfl⟩
abbrev main_while0b_v49 : Ref sig .tc := ⟨.hbm, 76, rfl⟩
abbrev main_while0b_v50 : Ref sig .tc := ⟨.hbm, 77, rfl⟩
abbrev main_while0b_v51 : Ref sig .tc := ⟨.hbm, 78, rfl⟩
abbrev main_while0b_v52 : Ref sig .tc := ⟨.hbm, 79, rfl⟩
abbrev main_while0b_cst_15 : Ref sig .tc := ⟨.hbm, 80, rfl⟩
abbrev main_while0b_v53 : Ref sig .tc := ⟨.hbm, 81, rfl⟩
abbrev main_while0b_v54 : Ref sig .tc := ⟨.hbm, 82, rfl⟩
abbrev main_while0b_cst_16 : Ref sig .tc := ⟨.hbm, 83, rfl⟩
abbrev main_while0b_v55 : Ref sig .tc := ⟨.hbm, 84, rfl⟩
abbrev main_while0b_v56 : Ref sig .tc := ⟨.hbm, 85, rfl⟩
abbrev main_while0b_v57 : Ref sig .tc := ⟨.hbm, 86, rfl⟩
abbrev main_while0b_v58 : Ref sig .tc := ⟨.hbm, 87, rfl⟩
abbrev main_while0b_v59 : Ref sig .tc := ⟨.hbm, 88, rfl⟩
abbrev main_while0b_v60 : Ref sig .tc := ⟨.hbm, 89, rfl⟩
abbrev main_while0b_v61 : Ref sig .tc := ⟨.hbm, 90, rfl⟩
abbrev main_while0b_v62 : Ref sig .tc := ⟨.hbm, 91, rfl⟩
abbrev main_while0b_v63 : Ref sig .tc := ⟨.hbm, 92, rfl⟩
abbrev main_while0b_v64 : Ref sig .tc := ⟨.hbm, 93, rfl⟩
abbrev main_while0b_v65 : Ref sig .tc := ⟨.hbm, 94, rfl⟩
abbrev main_while0b_v66 : Ref sig .tc := ⟨.hbm, 95, rfl⟩
abbrev main_while0b_cst_17 : Ref sig .tc := ⟨.hbm, 96, rfl⟩
abbrev main_while0b_v67 : Ref sig .tc := ⟨.hbm, 97, rfl⟩
abbrev main_while0b_v68 : Ref sig .tc := ⟨.hbm, 98, rfl⟩
abbrev main_while0b_cst_18 : Ref sig .tc := ⟨.hbm, 99, rfl⟩
abbrev main_while0b_v69 : Ref sig .tc := ⟨.hbm, 100, rfl⟩
abbrev main_while0b_v70 : Ref sig .tc := ⟨.hbm, 101, rfl⟩
abbrev main_while0b_v71 : Ref sig .tc := ⟨.hbm, 102, rfl⟩
abbrev main_while0b_cst_19 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_v75 : Ref sig .tc := ⟨.hbm, 107, rfl⟩
abbrev main_while0b_v76 : Ref sig .tc := ⟨.hbm, 108, rfl⟩
abbrev main_while0b_v77 : Ref sig .tc := ⟨.hbm, 109, rfl⟩
abbrev main_while0b_call2_v0 : Ref sig .tc := ⟨.hbm, 110, rfl⟩
abbrev main_while0b_v78 : Ref sig .tc := ⟨.hbm, 111, rfl⟩
abbrev main_while0b_call3_v0 : Ref sig .tc := ⟨.hbm, 112, rfl⟩
abbrev main_while0b_v79 : Ref sig .tc := ⟨.hbm, 113, rfl⟩
abbrev main_while0b_cst_20 : Ref sig .tc := ⟨.hbm, 114, rfl⟩
abbrev main_while0b_call4_v0 : Ref sig .tc := ⟨.hbm, 115, rfl⟩
abbrev main_while0b_call4_v1 : Ref sig .tc := ⟨.hbm, 116, rfl⟩
abbrev main_while0b_call4_v2 : Ref sig .tc := ⟨.hbm, 117, rfl⟩
abbrev main_while0b_v80 : Ref sig .tc := ⟨.hbm, 118, rfl⟩
abbrev main_while0b_call5_v0 : Ref sig .tc := ⟨.hbm, 119, rfl⟩
abbrev main_while0b_call5_c : Ref sig .tc := ⟨.hbm, 120, rfl⟩
abbrev main_while0b_call5_c_0 : Ref sig .tc := ⟨.hbm, 121, rfl⟩
abbrev main_while0b_v81 : Ref sig .tc := ⟨.hbm, 122, rfl⟩
abbrev main_while0b_c_21 : Ref sig .tc := ⟨.hbm, 123, rfl⟩
abbrev main_while0b_v82 : Ref sig .tc := ⟨.hbm, 124, rfl⟩
abbrev main_v11 : Ref sig .tc := ⟨.hbm, 125, rfl⟩
abbrev main_v12 : Ref sig .tc := ⟨.hbm, 126, rfl⟩
abbrev main_v13 : Ref sig .tc := ⟨.hbm, 127, rfl⟩

abbrev nD : Nat := 1
abbrev τ : Topo := Topo.v7x

variable {F : FTy → Type} [FloatOps F]

abbrev main_while0_count : Scf.Loop 32 := ⟨0#32, 2048#32, 1#32⟩
-- ==== Proof.Model.lean ====
/- The recurrence as plain mathematics on the extended reals: what one step computes from the arguments and the pair (hidden state, memory
   cell) before it, and the pair before each step. Both programs are shown to compute this. -/
module

public import Idealize.ShloMosaic.PureOps.Ideal
public import Idealize.ShloMosaic.Lib.Pointwise

@[expose] public section

noncomputable section

namespace Cert.Highway

open Idealize.ShloMosaic

abbrev SX : Shape := ⟨3, ![16, 2048, 256]⟩
abbrev SH : Shape := ⟨2, ![16, 256]⟩

/-- The six arguments. -/
structure Args where
  x : SX.Idx → EReal
  len : (⟨1, ![16]⟩ : Shape).Idx → BitVec 32
  wi : (⟨2, ![1536, 256]⟩ : Shape).Idx → EReal
  bi : (⟨1, ![1536]⟩ : Shape).Idx → EReal
  ws : (⟨2, ![1280, 256]⟩ : Shape).Idx → EReal
  bs : (⟨1, ![1280]⟩ : Shape).Idx → EReal

variable (A : Args)

/-- A pair: hidden state and memory cell. -/
abbrev Pair : Type := (SH.Idx → EReal) × (SH.Idx → EReal)

/-- The input's projection at time `t`, with its bias. -/
def px (t : Fin 2048) (b : Fin 16) (j : Fin 1536) : EReal :=
  (∑ k : Fin 256, A.x (ix3 b t k) * A.wi (ix2 j k)) + A.bi (ix1 j)

/-- The hidden state's projection, with its bias. -/
def ph (h : SH.Idx → EReal) (b : Fin 16) (j : Fin 1280) : EReal :=
  (∑ k : Fin 256, h (ix2 b k) * A.ws (ix2 j k)) + A.bs (ix1 j)

/-- The gate's argument at offset `o` of the columns. -/
def arg (h : SH.Idx → EReal) (t : Fin 2048) (b : Fin 16) (o : ℕ) (ho : o + 256 ≤ 1280) (u : Fin 256) : EReal :=
  px A t b ⟨o + u, by omega⟩ + ph A h b ⟨o + u, by omega⟩

/-- The logistic function. -/
def lg (v : EReal) : EReal := Ideal.div 1 (1 + Ideal.exp (-v))

/-- The new memory of one row and column. -/
def mem (s : Pair) (t : Fin 2048) (b : Fin 16) (u : Fin 256) : EReal :=
  lg (arg A s.1 t b 0 (by omega) u) * Ideal.tanh (arg A s.1 t b 512 (by omega) u)
    + lg (arg A s.1 t b 256 (by omega) u) * s.2 (ix2 b u)

/-- The new output of one row and column. -/
def out (s : Pair) (t : Fin 2048) (b : Fin 16) (u : Fin 256) : EReal :=
  lg (arg A s.1 t b 1024 (by omega) u) * (lg (arg A s.1 t b 768 (by omega) u) * Ideal.tanh (mem A s t b u))
    + (1 - lg (arg A s.1 t b 1024 (by omega) u)) * px A t b ⟨1280 + u, by omega⟩

/-- Whether row `b` is still running at time `t`. -/
def live (t : ℕ) (b : Fin 16) : BitVec 1 := IntOp.cmpi .slt (BitVec.ofNat 32 t) (A.len (ix1 b))

/-- The pair after the step at time `t`. -/
def next (t : Fin 2048) (s : Pair) : Pair :=
  (fun i => Scalar.select (live A t (i 0)) (out A s t (i 0) (i 1)) (s.1 i),
   fun i => Scalar.select (live A t (i 0)) (mem A s t (i 0) (i 1)) (s.2 i))

/-- The output row of the step at time `t`. -/
def row (t : Fin 2048) (s : Pair) (b : Fin 16) (u : Fin 256) : EReal :=
  Scalar.select (live A t b) (out A s t b u) 0

/-- The pair before the step at time `n`. -/
def pair : ℕ → Pair
  | 0 => (fun _ => 0, fun _ => 0)
  | n + 1 => if h : n < 2048 then next A ⟨n, h⟩ (pair n) else pair n

theorem pair_succ (t : Fin 2048) : pair A (t.val + 1) = next A t (pair A t.val) := by
  rw [pair, dif_pos t.isLt]

end Cert.Highway

end
-- ==== Proof.RefStep.lean ====
/- One trip of the reference's loop is one step of the recurrence, on the extended reals. -/
module

public import proofs.«01_k».proof.Proof.Model
public import proofs.«01_k».proof.Proof.Gen.ReferenceIdeal.Step
public import Idealize.ShloMosaic.Lib.Pointwise
public import Idealize.ShloMosaic.Lib.DynamicIndex

@[expose] public section

set_option maxRecDepth 16384

noncomputable section

namespace Cert.Highway.Ref

open Cert.ReferenceIdeal Cert.ReferenceIdeal.Step
open Idealize.ShloMosaic

/-- The state holds the arguments as the recurrence reads them. -/
structure Holds (A : Args) (s : State Ideal) : Prop where
  x : ∀ (t : Fin 2048) (b : Fin 16) (k : Fin 256), s.main_v10_0 (ix3 t b k) = A.x (ix3 b t k)
  m : ∀ (t : Fin 2048) (b : Fin 16), s.main_v10_1 (ix2 t b) = live A t b
  wi : s.main_v10_2 = A.wi
  bi : s.main_v10_3 = A.bi
  ws : s.main_v10_4 = A.ws
  bs : s.main_v10_5 = A.bs

variable {A : Args} {s : State Ideal} (t : Fin 2048)

/-- The trip's input rows. -/
theorem b3_at (b : Fin 16) (k : Fin 256) : b3 t.val s (ix2 b k) = s.main_v10_0 (ix3 t b k) := by
  have h := t.isLt
  have e := toInt_ofNat_of_lt (k := t.val) (by omega)
  pointwise [b3, b2, b1, b0]
  congr 1
  congr 1 <;> apply Fin.ext <;> simp [Host.clampedStart, constantI, e] <;> omega

/-- The trip's row of the mask. -/
theorem b6_at (b : Fin 16) : b6 t.val s (ix1 b) = s.main_v10_1 (ix2 t b) := by
  have h := t.isLt
  have e := toInt_ofNat_of_lt (k := t.val) (by omega)
  pointwise [b6, b5, b4]
  congr 1
  congr 1 <;> apply Fin.ext <;> simp [Host.clampedStart, constantI, e] <;> omega

/-- The input's projection. -/
theorem b11_at (h : Holds A s) (b : Fin 16) (j : Fin 1536) : b11 t.val s (ix2 b j) = px A t b j := by
  pointwise [b11, b10, b9, b8, b7]
  simp only [b3_at, h.x, h.wi, h.bi]
  rfl

/-- The hidden state's projection. -/
theorem b16_at (h : Holds A s) (b : Fin 16) (j : Fin 1280) : b16 t.val s (ix2 b j) = ph A s.main_v10_7 b j := by
  pointwise [b16, b15, b14, b13, b12]
  simp only [h.ws, h.bs]
  rfl

/-- The new memory. -/
theorem b56_at (h : Holds A s) (b : Fin 16) (u : Fin 256) : b56 t.val s (ix2 b u) = mem A (s.main_v10_7, s.main_v10_8) t b u := by
  pointwise [b56, b55, b54, b42, b41, b40, b39, b38, b37, b36, b35, b34, b33, b32, b31, b30, b29, b28, b27, b26, b25, b24, b23, b22, b21, b20, b19, b18, b17]
  simp only [b11_at t h, b16_at t h, mem, lg, arg, Nat.zero_add]

/-- The new output. -/
theorem b76_at (h : Holds A s) (b : Fin 16) (u : Fin 256) : b76 t.val s (ix2 b u) = out A (s.main_v10_7, s.main_v10_8) t b u := by
  pointwise [b76, b75, b74, b73, b72, b71, b70, b69, b68, b67, b66, b65, b64, b63, b62, b61, b60, b59, b58, b57, b53, b52, b51, b50, b49, b48, b47, b46, b45, b44, b43]
  simp only [b11_at t h, b16_at t h, b56_at t h, out, lg, arg]

/-- The memory the trip leaves. -/
theorem b79_at (h : Holds A s) : b79 t.val s = (next A t (s.main_v10_7, s.main_v10_8)).2 := by
  funext i
  idx_vars i
  pointwise [b79, b78, b77]
  simp only [b6_at, h.m, b56_at t h]
  rfl

/-- The hidden state the trip leaves. -/
theorem b81_at (h : Holds A s) : b81 t.val s = (next A t (s.main_v10_7, s.main_v10_8)).1 := by
  funext i
  idx_vars i
  pointwise [b81, b80, b78, b77]
  simp only [b6_at, h.m, b76_at t h]
  rfl

/-- The output row of the trip. -/
theorem b86_at (h : Holds A s) (b : Fin 16) (u : Fin 256) : b86 t.val s (ix2 b u) = row A t (s.main_v10_7, s.main_v10_8) b u := by
  pointwise [b86, b85, b84, b83, b82, b77]
  simp only [b6_at, h.m, b76_at t h]
  rfl

/-- The outputs so far: the trip writes its own row and keeps the others. -/
theorem b90_at (h : Holds A s) (n : Fin 2048) (b : Fin 16) (u : Fin 256) :
    b90 t.val s (ix3 n b u) = if n = t then row A t (s.main_v10_7, s.main_v10_8) b u else s.main_v10_9 (ix3 n b u) := by
  have hn := n.isLt
  have ht := t.isLt
  have e := toInt_ofNat_of_lt (k := t.val) (by omega)
  pointwise [b90, b89, b88, b87]
  simp only [b86_at t h]
  by_cases hnt : n = t
  · subst hnt
    rw [dif_pos (by simp [Host.clampedStart, constantI, e]; omega), if_pos rfl]
    congr 1 <;> apply Fin.ext <;> simp [Host.clampedStart, constantI]
  · have : n.val ≠ t.val := fun q => hnt (Fin.ext q)
    rw [dif_neg (by simp [Host.clampedStart, constantI, e]; omega), if_neg hnt]

end Cert.Highway.Ref

end
-- ==== Proof.RefRun.lean ====
/- The reference's run, stated over the step of the generated module Gen/ReferenceIdeal/Step.lean: a valuation that holds a state keeps
   holding one, with the step applied, through one trip of the host loop; so the results are the fields of the step iterated from the
   initial state. It follows the generated Gen/ReferenceIdeal/StepRun.lean, except that the field of the result rows (`step_9`) is closed
   by the equation of its value as a whole. -/
module

public import proofs.«01_k».proof.Proof.Gen.ReferenceIdeal.Run
public import proofs.«01_k».proof.Proof.Gen.ReferenceIdeal.Step

@[expose] public section

noncomputable section

namespace Cert.Highway.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v10_7) = s.main_v10_7
  f_8 : V0 (Proc.devRef .tc main_v10_8) = s.main_v10_8
  f_9 : V0 (Proc.devRef .tc main_v10_9) = s.main_v10_9
  f_0 : V0 (Proc.devRef .tc main_v10_0) = s.main_v10_0
  f_1 : V0 (Proc.devRef .tc main_v10_1) = s.main_v10_1
  f_2 : V0 (Proc.devRef .tc main_v10_2) = s.main_v10_2
  f_3 : V0 (Proc.devRef .tc main_v10_3) = s.main_v10_3
  f_4 : V0 (Proc.devRef .tc main_v10_4) = s.main_v10_4
  f_5 : V0 (Proc.devRef .tc main_v10_5) = s.main_v10_5
  n_6 : V0 (Proc.devRef .tc main_v10_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x16x256 (V0 (Proc.devRef .tc main_v10_0)) (fun k => (((![V0 (Proc.devRef .tc main_v10_6), constantI S_ 32 0#32, constantI S_ 32 0#32] : Fin 3 → (⟨S_, .i32⟩ : BufTy).Contents (Elt F))) k (Shape.Idx.first h_S_)).toInt) sliceFits_S2048x16x256_S1x16x256 : (Proc.devRef .tc main_while0b_call0_v0 : DevRef τ sig).ty.Contents (Elt F)) = Cert.ReferenceIdeal.Step.b2 j s := by
  unfold Cert.ReferenceIdeal.Step.b2
  rw [← al_0 h, ← al_1 h, h.f_0, h.n_6]
  try rfl
set_option maxRecDepth 8192 in
theorem al_3 (h : Holds V0 s j) : (shapeCast S16x256 (Host.dynamicSlice S1x16x256 (V0 (Proc.devRef .tc main_v10_0)) (fun k => (((![V0 (Proc.devRef .tc main_v10_6), constantI S_ 32 0#32, constantI S_ 32 0#32] : Fin 3 → (⟨S_, .i32⟩ : BufTy).Contents (Elt F))) k (Shape.Idx.first h_S_)).toInt) sliceFits_S2048x16x256_S1x16x256) shapeCasts_S1x16x256_S16x256 : (Proc.devRef .tc main_while0b_v14 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call1_c : DevRef τ sig).ty.Contents (Elt F)) = Cert.ReferenceIdeal.Step.b4 j s := by
  unfold Cert.ReferenceIdeal.Step.b4
  rfl
set_option maxRecDepth 8192 in
theorem al_5 (h : Holds V0 s j) : (Host.dynamicSlice S1x16 (V0 (Proc.devRef .tc main_v10_1)) (fun k => (((![V0 (Proc.devRef .tc main_v10_6), constantI S_ 32 0#32] : Fin 2 → (⟨S_, .i32⟩ : BufTy).Contents (Elt F))) k (Shape.Idx.first h_S_)).toInt) sliceFits_S2048x16_S1x16 : (Proc.devRef .tc main_while0b_call1_v0 : DevRef τ sig).ty.Contents (Elt F)) = Cert.ReferenceIdeal.Step.b5 j s := by
  unfold Cert.ReferenceIdeal.Step.b5
  rw [← al_4 h, h.f_1, h.n_6]
  try rfl
set_option maxRecDepth 8192 in
theorem al_6 (h : Holds V0 s j) : (shapeCast S16 (Host.dynamicSlice S1x16 (V0 (Proc.devRef .tc main_v10_1)) (fun k => (((![V0 (Proc.devRef .tc main_v10_6), constantI S_ 32 0#32] : Fin 2 → (⟨S_, .i32⟩ : BufTy).Contents (Elt F))) k (Shape.Idx.first h_S_)).toInt) sliceFits_S2048x16_S1x16) shapeCasts_S1x16_S16 : (Proc.devRef .tc main_while0b_v15 : DevRef τ sig).ty.Contents (Elt F)) = Cert.ReferenceIdeal.Step.b6 j s := by
  unfold Cert.ReferenceIdeal.Step.b6
  rw [← al_5 h]
  try rfl
set_option maxRecDepth 8192 in
theorem al_7 (h : Holds V0 s j) : (transpose S256x1536 [1, 0] (V0 (Proc.devRef .tc main_v10_2)) transposes_S1536x256_S256x1536_1_0 : (Proc.devRef .tc main_while0b_v16 : DevRef τ sig).ty.Contents (Elt F)) = Cert.ReferenceIdeal.Step.b7 j s := by
  unfold Cert.ReferenceIdeal.Step.b7
  rw [h.f_2]
  try rfl
set_option maxRecDepth 8192 in
theorem al_8 (h : Holds V0 s j) : (Host.dotGeneral dot_S16x256_S256x1536_S16x1536_1_0_0_1_n_n none (shapeCast S16x256 (Host.dynamicSlice S1x16x256 (V0 (Proc.devRef .tc main_v10_0)) (fun k => (((![V0 (Proc.devRef .tc main_v10_6), constantI S_ 32 0#32, constantI S_ 32 0#32] : Fin 3 → (⟨S_, .i32⟩ : BufTy).Contents (Elt F))) k (Shape.Idx.first h_S_)).toInt) sliceFits_S2048x16x256_S1x16x256) shapeCasts_S1x16x256_S16x256) (transpose S256x1536 [1, 0] (V0 (Proc.devRef .tc main_v10_2)) transposes_S1536x256_S256x1536_1_0) : (Proc.devRef .tc main_while0b_v17 : DevRef τ sig).ty.Contents (Elt F)) = Cert.ReferenceIdeal.Step.b8 j s := by
  unfold Cert.ReferenceIdeal.Step.b8
  rw [← al_3 h, ← al_7 h]
  try rfl
set_option maxRecDepth 8192 in
theorem al_9 (h : Holds V0 s j) : (broadcastInDim S1x1536 ![1] bcast_S1536_S1x1536_1 (V0 (Proc.devRef .tc main_v10_3)) : (Proc.devRef .tc main_while0b_v18 : DevRef τ sig).ty.Contents (Elt F)) = Cert.ReferenceIdeal.Step.b9 j s := by
  unfold Cert.ReferenceIdeal.Step.b9
  rw [h.f_3]
  try rfl
set_option maxRecDepth 8192 in
theorem al_10 (h : Holds V0 s j) : (broadcastInDim S16x1536 ![0, 1] bcast_S1x1536_S16x1536_0_1 (broadcastInDim S1x1536 ![1] bcast_S1536_S1x1536_1 (V0 (Proc.devRef .tc main_v10_3))) : (Proc.devRef .tc main_while0b_v19 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (res_main_while0b_v20 V0 : (Proc.devRef .tc main_while0b_v20 : DevRef τ sig).ty.Contents (Elt F)) = Cert.ReferenceIdeal.Step.b11 j s := by
  unfold res_main_while0b_v20 Cert.ReferenceIdeal.Step.b11
  rw [← al_8 h, ← al_10 h]
  try rfl
set_option maxRecDepth 8192 in
theorem al_12 (h : Holds V0 s j) : (transpose S256x1280 [1, 0] (V0 (Proc.devRef .tc main_v10_4)) transposes_S1280x256_S256x1280_1_0 : (Proc.devRef .tc main_while0b_v21 : DevRef τ sig).ty.Contents (Elt F)) = Cert.ReferenceIdeal.Step.b12 j s := by
  unfold Cert.ReferenceIdeal.Step.b12
  rw [h.f_4]
  try rfl
set_option maxRecDepth 8192 in
theorem al_13 (h : Holds V0 s j) : (Host.dotGeneral dot_S16x256_S256x1280_S16x1280_1_0_0_1_n_n none (V0 (Proc.devRef .tc main_v10_7)) (transpose S256x1280 [1, 0] (V0 (Proc.devRef .tc main_v10_4)) transposes_S1280x256_S256x1280_1_0) : (Proc.devRef .tc main_while0b_v22 : DevRef τ sig).ty.Contents (Elt F)) = Cert.ReferenceIdeal.Step.b13 j s := by
  unfold Cert.ReferenceIdeal.Step.b13
  rw [← al_12 h, h.f_7]
  try rfl
set_option maxRecDepth 8192 in
theorem al_14 (h : Holds V0 s j) : (broadcastInDim S1x1280 ![1] bcast_S1280_S1x1280_1 (V0 (Proc.devRef .tc main_v10_5)) : (Proc.devRef .tc main_while0b_v23 : DevRef τ sig).ty.Contents (Elt F)) = Cert.ReferenceIdeal.Step.b14 j s := by
  unfold Cert.ReferenceIdeal.Step.b14
  rw [h.f_5]
  try rfl
set_option maxRecDepth 8192 in
theorem al_15 (h : Holds V0 s j) : (broadcastInDim S16x1280 ![0, 1] bcast_S1x1280_S16x1280_0_1 (broadcastInDim S1x1280 ![1] bcast_S1280_S1x1280_1 (V0 (Proc.devRef .tc main_v10_5))) : (Proc.devRef .tc main_while0b_v24 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (res_main_while0b_v25 V0 : (Proc.devRef .tc main_while0b_v25 : DevRef τ sig).ty.Contents (Elt F)) = Cert.ReferenceIdeal.Step.b16 j s := by
  unfold res_main_while0b_v25 Cert.ReferenceIdeal.Step.b16
  rw [← al_13 h, ← al_15 h]
  try rfl
set_option maxRecDepth 8192 in
theorem al_17 (h : Holds V0 s j) : (extractStridedSlice S16x256 ![0, 0] (res_main_while0b_v20 V0) slices_S16x1536_S16x256_0_0 : (Proc.devRef .tc main_while0b_v26 : DevRef τ sig).ty.Contents (Elt F)) = Cert.ReferenceIdeal.Step.b17 j s := by
  unfold Cert.ReferenceIdeal.Step.b17
  rw [← al_11 h]
  try rfl
set_option maxRecDepth 8192 in
theorem al_18 (h : Holds V0 s j) : (extractStridedSlice S16x256 ![0, 0] (res_main_while0b_v25 V0) slices_S16x1280_S16x256_0_0 : (Proc.devRef .tc main_while0b_v27 : DevRef τ sig).ty.Contents (Elt F)) = Cert.ReferenceIdeal.Step.b18 j s := by
  unfold Cert.ReferenceIdeal.Step.b18
  rw [← al_16 h]
  try rfl
set_option maxRecDepth 8192 in
theorem al_19 (h : Holds V0 s j) : (addf (extractStridedSlice S16x256 ![0, 0] (res_main_while0b_v20 V0) slices_S16x1536_S16x256_0_0) (extractStridedSlice S16x256 ![0, 0] (res_main_while0b_v25 V0) slices_S16x1280_S16x256_0_0) : (Proc.devRef .tc main_while0b_v28 : DevRef τ sig).ty.Contents (Elt F)) = Cert.ReferenceIdeal.Step.b19 j s := by
  unfold Cert.ReferenceIdeal.Step.b19
  rw [← al_17 h, ← al_18 h]
  try rfl
set_option maxRecDepth 8192 in
theorem al_20 (h : Holds V0 s j) : (Host.negf (addf (extractStridedSlice S16x256 ![0, 0] (res_main_while0b_v20 V0) slices_S16x1536_S16x256_0_0) (extractStridedSlice S16x256 ![0, 0] (res_main_while0b_v25 V0) slices_S16x1280_S16x256_0_0)) : (Proc.devRef .tc main_while0b_v29 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (Host.exp (Host.negf (addf (extractStridedSlice S16x256 ![0, 0] (res_main_while0b_v20 V0) slices_S16x1536_S16x256_0_0) (extractStridedSlice S16x256 ![0, 0] (res_main_while0b_v25 V0) slices_S16x1280_S16x256_0_0))) : (Proc.devRef .tc main_while0b_v30 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (constant S_ .f32 0x3F800000#32 : (Proc.devRef .tc main_while0b_cst_11 : DevRef τ sig).ty.Contents (Elt F)) = Cert.ReferenceIdeal.Step.b22 j s := by
  unfold Cert.ReferenceIdeal.Step.b22
  rfl
set_option maxRecDepth 8192 in
theorem al_23 (h : Holds V0 s j) : (broadcastInDim S16x256 ![] bcast_S_S16x256 (constant S_ .f32 0x3F800000#32) : (Proc.devRef .tc main_while0b_v31 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (addf (broadcastInDim S16x256 ![] bcast_S_S16x256 (constant S_ .f32 0x3F800000#32)) (Host.exp (Host.negf (addf (extractStridedSlice S16x256 ![0, 0] (res_main_while0b_v20 V0) slices_S16x1536_S16x256_0_0) (extractStridedSlice S16x256 ![0, 0] (res_main_while0b_v25 V0) slices_S16x1280_S16x256_0_0)))) : (Proc.devRef .tc main_while0b_v32 : DevRef τ sig).ty.Contents (Elt F)) = Cert.ReferenceIdeal.Step.b24 j s := by
  unfold Cert.ReferenceIdeal.Step.b24
  rw [← al_23 h, ← al_21 h]
  try rfl
set_option maxRecDepth 8192 in
theorem al_25 (h : Holds V0 s j) : (constant S_ .f32 0x3F800000#32 : (Proc.devRef .tc main_while0b_cst_12 : DevRef τ sig).ty.Contents (Elt F)) = Cert.ReferenceIdeal.Step.b25 j s := by
  unfold Cert.ReferenceIdeal.Step.b25
  rfl
set_option maxRecDepth 8192 in
theorem al_26 (h : Holds V0 s j) : (broadcastInDim S16x256 ![] bcast_S_S16x256 (constant S_ .f32 0x3F800000#32) : (Proc.devRef .tc main_while0b_v33 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (Host.divf (broadcastInDim S16x256 ![] bcast_S_S16x256 (constant S_ .f32 0x3F800000#32)) (addf (broadcastInDim S16x256 ![] bcast_S_S16x256 (constant S_ .f32 0x3F800000#32)) (Host.exp (Host.negf (addf (extractStridedSlice S16x256 ![0, 0] (res_main_while0b_v20 V0) slices_S16x1536_S16x256_0_0) (extractStridedSlice S16x256 ![0, 0] (res_main_while0b_v25 V0) slices_S16x1280_S16x256_0_0))))) : (Proc.devRef .tc main_while0b_v34 : DevRef τ sig).ty.Contents (Elt F)) = Cert.ReferenceIdeal.Step.b27 j s := by
  unfold Cert.ReferenceIdeal.Step.b27
  rw [← al_26 h, ← al_24 h]
  try rfl
set_option maxRecDepth 8192 in
theorem al_28 (h : Holds V0 s j) : (extractStridedSlice S16x256 ![0, 256] (res_main_while0b_v20 V0) slices_S16x1536_S16x256_0_256 : (Proc.devRef .tc main_while0b_v35 : DevRef τ sig).ty.Contents (Elt F)) = Cert.ReferenceIdeal.Step.b28 j s := by
  unfold Cert.ReferenceIdeal.Step.b28
  rw [← al_11 h]
  try rfl
set_option maxRecDepth 8192 in
theorem al_29 (h : Holds V0 s j) : (extractStridedSlice S16x256 ![0, 256] (res_main_while0b_v25 V0) slices_S16x1280_S16x256_0_256 : (Proc.devRef .tc main_while0b_v36 : DevRef τ sig).ty.Contents (Elt F)) = Cert.ReferenceIdeal.Step.b29 j s := by
  unfold Cert.ReferenceIdeal.Step.b29
  rw [← al_16 h]
  try rfl
set_option maxRecDepth 8192 in
theorem al_30 (h : Holds V0 s j) : (addf (extractStridedSlice S16x256 ![0, 256] (res_main_while0b_v20 V0) slices_S16x1536_S16x256_0_256) (extractStridedSlice S16x256 ![0, 256] (res_main_while0b_v25 V0) slices_S16x1280_S16x256_0_256) : (Proc.devRef .tc main_while0b_v37 : DevRef τ sig).ty.Contents (Elt F)) = Cert.ReferenceIdeal.Step.b30 j s := by
  unfold Cert.ReferenceIdeal.Step.b30
  rw [← al_28 h, ← al_29 h]
  try rfl
set_option maxRecDepth 8192 in
theorem al_31 (h : Holds V0 s j) : (Host.negf (addf (extractStridedSlice S16x256 ![0, 256] (res_main_while0b_v20 V0) slices_S16x1536_S16x256_0_256) (extractStridedSlice S16x256 ![0, 256] (res_main_while0b_v25 V0) slices_S16x1280_S16x256_0_256)) : (Proc.devRef .tc main_while0b_v38 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (Host.exp (Host.negf (addf (extractStridedSlice S16x256 ![0, 256] (res_main_while0b_v20 V0) slices_S16x1536_S16x256_0_256) (extractStridedSlice S16x256 ![0, 256] (res_main_while0b_v25 V0) slices_S16x1280_S16x256_0_256))) : (Proc.devRef .tc main_while0b_v39 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (constant S_ .f32 0x3F800000#32 : (Proc.devRef .tc main_while0b_cst_13 : DevRef τ sig).ty.Contents (Elt F)) = Cert.ReferenceIdeal.Step.b33 j s := by
  unfold Cert.ReferenceIdeal.Step.b33
  rfl
set_option maxRecDepth 8192 in
theorem al_34 (h : Holds V0 s j) : (broadcastInDim S16x256 ![] bcast_S_S16x256 (constant S_ .f32 0x3F800000#32) : (Proc.devRef .tc main_while0b_v40 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (addf (broadcastInDim S16x256 ![] bcast_S_S16x256 (constant S_ .f32 0x3F800000#32)) (Host.exp (Host.negf (addf (extractStridedSlice S16x256 ![0, 256] (res_main_while0b_v20 V0) slices_S16x1536_S16x256_0_256) (extractStridedSlice S16x256 ![0, 256] (res_main_while0b_v25 V0) slices_S16x1280_S16x256_0_256)))) : (Proc.devRef .tc main_while0b_v41 : DevRef τ sig).ty.Contents (Elt F)) = Cert.ReferenceIdeal.Step.b35 j s := by
  unfold Cert.ReferenceIdeal.Step.b35
  rw [← al_34 h, ← al_32 h]
  try rfl
set_option maxRecDepth 8192 in
theorem al_36 (h : Holds V0 s j) : (constant S_ .f32 0x3F800000#32 : (Proc.devRef .tc main_while0b_cst_14 : DevRef τ sig).ty.Contents (Elt F)) = Cert.ReferenceIdeal.Step.b36 j s := by
  unfold Cert.ReferenceIdeal.Step.b36
  rfl
set_option maxRecDepth 8192 in
theorem al_37 (h : Holds V0 s j) : (broadcastInDim S16x256 ![] bcast_S_S16x256 (constant S_ .f32 0x3F800000#32) : (Proc.devRef .tc main_while0b_v42 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (Host.divf (broadcastInDim S16x256 ![] bcast_S_S16x256 (constant S_ .f32 0x3F800000#32)) (addf (broadcastInDim S16x256 ![] bcast_S_S16x256 (constant S_ .f32 0x3F800000#32)) (Host.exp (Host.negf (addf (extractStridedSlice S16x256 ![0, 256] (res_main_while0b_v20 V0) slices_S16x1536_S16x256_0_256) (extractStridedSlice S16x256 ![0, 256] (res_main_while0b_v25 V0) slices_S16x1280_S16x256_0_256))))) : (Proc.devRef .tc main_while0b_v43 : DevRef τ sig).ty.Contents (Elt F)) = Cert.ReferenceIdeal.Step.b38 j s := by
  unfold Cert.ReferenceIdeal.Step.b38
  rw [← al_37 h, ← al_35 h]
  try rfl
set_option maxRecDepth 8192 in
theorem al_39 (h : Holds V0 s j) : (extractStridedSlice S16x256 ![0, 512] (res_main_while0b_v20 V0) slices_S16x1536_S16x256_0_512 : (Proc.devRef .tc main_while0b_v44 : DevRef τ sig).ty.Contents (Elt F)) = Cert.ReferenceIdeal.Step.b39 j s := by
  unfold Cert.ReferenceIdeal.Step.b39
  rw [← al_11 h]
  try rfl
set_option maxRecDepth 8192 in
theorem al_40 (h : Holds V0 s j) : (extractStridedSlice S16x256 ![0, 512] (res_main_while0b_v25 V0) slices_S16x1280_S16x256_0_512 : (Proc.devRef .tc main_while0b_v45 : DevRef τ sig).ty.Contents (Elt F)) = Cert.ReferenceIdeal.Step.b40 j s := by
  unfold Cert.ReferenceIdeal.Step.b40
  rw [← al_16 h]
  try rfl
set_option maxRecDepth 8192 in
theorem al_41 (h : Holds V0 s j) : (addf (extractStridedSlice S16x256 ![0, 512] (res_main_while0b_v20 V0) slices_S16x1536_S16x256_0_512) (extractStridedSlice S16x256 ![0, 512] (res_main_while0b_v25 V0) slices_S16x1280_S16x256_0_512) : (Proc.devRef .tc main_while0b_v46 : DevRef τ sig).ty.Contents (Elt F)) = Cert.ReferenceIdeal.Step.b41 j s := by
  unfold Cert.ReferenceIdeal.Step.b41
  rw [← al_39 h, ← al_40 h]
  try rfl
set_option maxRecDepth 8192 in
theorem al_42 (h : Holds V0 s j) : (Host.tanh (addf (extractStridedSlice S16x256 ![0, 512] (res_main_while0b_v20 V0) slices_S16x1536_S16x256_0_512) (extractStridedSlice S16x256 ![0, 512] (res_main_while0b_v25 V0) slices_S16x1280_S16x256_0_512)) : (Proc.devRef .tc main_while0b_v47 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (extractStridedSlice S16x256 ![0, 768] (res_main_while0b_v20 V0) slices_S16x1536_S16x256_0_768 : (Proc.devRef .tc main_while0b_v48 : DevRef τ sig).ty.Contents (Elt F)) = Cert.ReferenceIdeal.Step.b43 j s := by
  unfold Cert.ReferenceIdeal.Step.b43
  rw [← al_11 h]
  try rfl
set_option maxRecDepth 8192 in
theorem al_44 (h : Holds V0 s j) : (extractStridedSlice S16x256 ![0, 768] (res_main_while0b_v25 V0) slices_S16x1280_S16x256_0_768 : (Proc.devRef .tc main_while0b_v49 : DevRef τ sig).ty.Contents (Elt F)) = Cert.ReferenceIdeal.Step.b44 j s := by
  unfold Cert.ReferenceIdeal.Step.b44
  rw [← al_16 h]
  try rfl
set_option maxRecDepth 8192 in
theorem al_45 (h : Holds V0 s j) : (addf (extractStridedSlice S16x256 ![0, 768] (res_main_while0b_v20 V0) slices_S16x1536_S16x256_0_768) (extractStridedSlice S16x256 ![0, 768] (res_main_while0b_v25 V0) slices_S16x1280_S16x256_0_768) : (Proc.devRef .tc main_while0b_v50 : DevRef τ sig).ty.Contents (Elt F)) = Cert.ReferenceIdeal.Step.b45 j s := by
  unfold Cert.ReferenceIdeal.Step.b45
  rw [← al_43 h, ← al_44 h]
  try rfl
set_option maxRecDepth 8192 in
theorem al_46 (h : Holds V0 s j) : (Host.negf (addf (extractStridedSlice S16x256 ![0, 768] (res_main_while0b_v20 V0) slices_S16x1536_S16x256_0_768) (extractStridedSlice S16x256 ![0, 768] (res_main_while0b_v25 V0) slices_S16x1280_S16x256_0_768)) : (Proc.devRef .tc main_while0b_v51 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (Host.exp (Host.negf (addf (extractStridedSlice S16x256 ![0, 768] (res_main_while0b_v20 V0) slices_S16x1536_S16x256_0_768) (extractStridedSlice S16x256 ![0, 768] (res_main_while0b_v25 V0) slices_S16x1280_S16x256_0_768))) : (Proc.devRef .tc main_while0b_v52 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (constant S_ .f32 0x3F800000#32 : (Proc.devRef .tc main_while0b_cst_15 : DevRef τ sig).ty.Contents (Elt F)) = Cert.ReferenceIdeal.Step.b48 j s := by
  unfold Cert.ReferenceIdeal.Step.b48
  rfl
set_option maxRecDepth 8192 in
theorem al_49 (h : Holds V0 s j) : (broadcastInDim S16x256 ![] bcast_S_S16x256 (constant S_ .f32 0x3F800000#32) : (Proc.devRef .tc main_while0b_v53 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (addf (broadcastInDim S16x256 ![] bcast_S_S16x256 (constant S_ .f32 0x3F800000#32)) (Host.exp (Host.negf (addf (extractStridedSlice S16x256 ![0, 768] (res_main_while0b_v20 V0) slices_S16x1536_S16x256_0_768) (extractStridedSlice S16x256 ![0, 768] (res_main_while0b_v25 V0) slices_S16x1280_S16x256_0_768)))) : (Proc.devRef .tc main_while0b_v54 : DevRef τ sig).ty.Contents (Elt F)) = Cert.ReferenceIdeal.Step.b50 j s := by
  unfold Cert.ReferenceIdeal.Step.b50
  rw [← al_49 h, ← al_47 h]
  try rfl
set_option maxRecDepth 8192 in
theorem al_51 (h : Holds V0 s j) : (constant S_ .f32 0x3F800000#32 : (Proc.devRef .tc main_while0b_cst_16 : DevRef τ sig).ty.Contents (Elt F)) = Cert.ReferenceIdeal.Step.b51 j s := by
  unfold Cert.ReferenceIdeal.Step.b51
  rfl
set_option maxRecDepth 8192 in
theorem al_52 (h : Holds V0 s j) : (broadcastInDim S16x256 ![] bcast_S_S16x256 (constant S_ .f32 0x3F800000#32) : (Proc.devRef .tc main_while0b_v55 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (Host.divf (broadcastInDim S16x256 ![] bcast_S_S16x256 (constant S_ .f32 0x3F800000#32)) (addf (broadcastInDim S16x256 ![] bcast_S_S16x256 (constant S_ .f32 0x3F800000#32)) (Host.exp (Host.negf (addf (extractStridedSlice S16x256 ![0, 768] (res_main_while0b_v20 V0) slices_S16x1536_S16x256_0_768) (extractStridedSlice S16x256 ![0, 768] (res_main_while0b_v25 V0) slices_S16x1280_S16x256_0_768))))) : (Proc.devRef .tc main_while0b_v56 : DevRef τ sig).ty.Contents (Elt F)) = Cert.ReferenceIdeal.Step.b53 j s := by
  unfold Cert.ReferenceIdeal.Step.b53
  rw [← al_52 h, ← al_50 h]
  try rfl
set_option maxRecDepth 8192 in
theorem al_54 (h : Holds V0 s j) : (mulf (Host.divf (broadcastInDim S16x256 ![] bcast_S_S16x256 (constant S_ .f32 0x3F800000#32)) (addf (broadcastInDim S16x256 ![] bcast_S_S16x256 (constant S_ .f32 0x3F800000#32)) (Host.exp (Host.negf (addf (extractStridedSlice S16x256 ![0, 0] (res_main_while0b_v20 V0) slices_S16x1536_S16x256_0_0) (extractStridedSlice S16x256 ![0, 0] (res_main_while0b_v25 V0) slices_S16x1280_S16x256_0_0)))))) (Host.tanh (addf (extractStridedSlice S16x256 ![0, 512] (res_main_while0b_v20 V0) slices_S16x1536_S16x256_0_512) (extractStridedSlice S16x256 ![0, 512] (res_main_while0b_v25 V0) slices_S16x1280_S16x256_0_512))) : (Proc.devRef .tc main_while0b_v57 : DevRef τ sig).ty.Contents (Elt F)) = Cert.ReferenceIdeal.Step.b54 j s := by
  unfold Cert.ReferenceIdeal.Step.b54
  rw [← al_27 h, ← al_42 h]
  try rfl
set_option maxRecDepth 8192 in
theorem al_55 (h : Holds V0 s j) : (mulf (Host.divf (broadcastInDim S16x256 ![] bcast_S_S16x256 (constant S_ .f32 0x3F800000#32)) (addf (broadcastInDim S16x256 ![] bcast_S_S16x256 (constant S_ .f32 0x3F800000#32)) (Host.exp (Host.negf (addf (extractStridedSlice S16x256 ![0, 256] (res_main_while0b_v20 V0) slices_S16x1536_S16x256_0_256) (extractStridedSlice S16x256 ![0, 256] (res_main_while0b_v25 V0) slices_S16x1280_S16x256_0_256)))))) (V0 (Proc.devRef .tc main_v10_8)) : (Proc.devRef .tc main_while0b_v58 : DevRef τ sig).ty.Contents (Elt F)) = Cert.ReferenceIdeal.Step.b55 j s := by
  unfold Cert.ReferenceIdeal.Step.b55
  rw [← al_38 h, h.f_8]
  try rfl
set_option maxRecDepth 8192 in
theorem al_56 (h : Holds V0 s j) : (res_main_while0b_v59 V0 : (Proc.devRef .tc main_while0b_v59 : DevRef τ sig).ty.Contents (Elt F)) = Cert.ReferenceIdeal.Step.b56 j s := by
  unfold res_main_while0b_v59 Cert.ReferenceIdeal.Step.b56
  rw [← al_54 h, ← al_55 h]
  try rfl
set_option maxRecDepth 8192 in
theorem al_57 (h : Holds V0 s j) : (Host.tanh (res_main_while0b_v59 V0) : (Proc.devRef .tc main_while0b_v60 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (mulf (Host.divf (broadcastInDim S16x256 ![] bcast_S_S16x256 (constant S_ .f32 0x3F800000#32)) (addf (broadcastInDim S16x256 ![] bcast_S_S16x256 (constant S_ .f32 0x3F800000#32)) (Host.exp (Host.negf (addf (extractStridedSlice S16x256 ![0, 768] (res_main_while0b_v20 V0) slices_S16x1536_S16x256_0_768) (extractStridedSlice S16x256 ![0, 768] (res_main_while0b_v25 V0) slices_S16x1280_S16x256_0_768)))))) (Host.tanh (res_main_while0b_v59 V0)) : (Proc.devRef .tc main_while0b_v61 : DevRef τ sig).ty.Contents (Elt F)) = Cert.ReferenceIdeal.Step.b58 j s := by
  unfold Cert.ReferenceIdeal.Step.b58
  rw [← al_53 h, ← al_57 h]
  try rfl
set_option maxRecDepth 8192 in
theorem al_59 (h : Holds V0 s j) : (extractStridedSlice S16x256 ![0, 1024] (res_main_while0b_v20 V0) slices_S16x1536_S16x256_0_1024 : (Proc.devRef .tc main_while0b_v62 : DevRef τ sig).ty.Contents (Elt F)) = Cert.ReferenceIdeal.Step.b59 j s := by
  unfold Cert.ReferenceIdeal.Step.b59
  rw [← al_11 h]
  try rfl
set_option maxRecDepth 8192 in
theorem al_60 (h : Holds V0 s j) : (extractStridedSlice S16x256 ![0, 1024] (res_main_while0b_v25 V0) slices_S16x1280_S16x256_0_1024 : (Proc.devRef .tc main_while0b_v63 : DevRef τ sig).ty.Contents (Elt F)) = Cert.ReferenceIdeal.Step.b60 j s := by
  unfold Cert.ReferenceIdeal.Step.b60
  rw [← al_16 h]
  try rfl
set_option maxRecDepth 8192 in
theorem al_61 (h : Holds V0 s j) : (addf (extractStridedSlice S16x256 ![0, 1024] (res_main_while0b_v20 V0) slices_S16x1536_S16x256_0_1024) (extractStridedSlice S16x256 ![0, 1024] (res_main_while0b_v25 V0) slices_S16x1280_S16x256_0_1024) : (Proc.devRef .tc main_while0b_v64 : DevRef τ sig).ty.Contents (Elt F)) = Cert.ReferenceIdeal.Step.b61 j s := by
  unfold Cert.ReferenceIdeal.Step.b61
  rw [← al_59 h, ← al_60 h]
  try rfl
set_option maxRecDepth 8192 in
theorem al_62 (h : Holds V0 s j) : (Host.negf (addf (extractStridedSlice S16x256 ![0, 1024] (res_main_while0b_v20 V0) slices_S16x1536_S16x256_0_1024) (extractStridedSlice S16x256 ![0, 1024] (res_main_while0b_v25 V0) slices_S16x1280_S16x256_0_1024)) : (Proc.devRef .tc main_while0b_v65 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (Host.exp (Host.negf (addf (extractStridedSlice S16x256 ![0, 1024] (res_main_while0b_v20 V0) slices_S16x1536_S16x256_0_1024) (extractStridedSlice S16x256 ![0, 1024] (res_main_while0b_v25 V0) slices_S16x1280_S16x256_0_1024))) : (Proc.devRef .tc main_while0b_v66 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (constant S_ .f32 0x3F800000#32 : (Proc.devRef .tc main_while0b_cst_17 : DevRef τ sig).ty.Contents (Elt F)) = Cert.ReferenceIdeal.Step.b64 j s := by
  unfold Cert.ReferenceIdeal.Step.b64
  rfl
set_option maxRecDepth 8192 in
theorem al_65 (h : Holds V0 s j) : (broadcastInDim S16x256 ![] bcast_S_S16x256 (constant S_ .f32 0x3F800000#32) : (Proc.devRef .tc main_while0b_v67 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (addf (broadcastInDim S16x256 ![] bcast_S_S16x256 (constant S_ .f32 0x3F800000#32)) (Host.exp (Host.negf (addf (extractStridedSlice S16x256 ![0, 1024] (res_main_while0b_v20 V0) slices_S16x1536_S16x256_0_1024) (extractStridedSlice S16x256 ![0, 1024] (res_main_while0b_v25 V0) slices_S16x1280_S16x256_0_1024)))) : (Proc.devRef .tc main_while0b_v68 : DevRef τ sig).ty.Contents (Elt F)) = Cert.ReferenceIdeal.Step.b66 j s := by
  unfold Cert.ReferenceIdeal.Step.b66
  rw [← al_65 h, ← al_63 h]
  try rfl
set_option maxRecDepth 8192 in
theorem al_67 (h : Holds V0 s j) : (constant S_ .f32 0x3F800000#32 : (Proc.devRef .tc main_while0b_cst_18 : DevRef τ sig).ty.Contents (Elt F)) = Cert.ReferenceIdeal.Step.b67 j s := by
  unfold Cert.ReferenceIdeal.Step.b67
  rfl
set_option maxRecDepth 8192 in
theorem al_68 (h : Holds V0 s j) : (broadcastInDim S16x256 ![] bcast_S_S16x256 (constant S_ .f32 0x3F800000#32) : (Proc.devRef .tc main_while0b_v69 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (res_main_while0b_v70 V0 : (Proc.devRef .tc main_while0b_v70 : DevRef τ sig).ty.Contents (Elt F)) = Cert.ReferenceIdeal.Step.b69 j s := by
  unfold res_main_while0b_v70 Cert.ReferenceIdeal.Step.b69
  rw [← al_68 h, ← al_66 h]
  try rfl
set_option maxRecDepth 8192 in
theorem al_70 (h : Holds V0 s j) : (mulf (res_main_while0b_v70 V0) (mulf (Host.divf (broadcastInDim S16x256 ![] bcast_S_S16x256 (constant S_ .f32 0x3F800000#32)) (addf (broadcastInDim S16x256 ![] bcast_S_S16x256 (constant S_ .f32 0x3F800000#32)) (Host.exp (Host.negf (addf (extractStridedSlice S16x256 ![0, 768] (res_main_while0b_v20 V0) slices_S16x1536_S16x256_0_768) (extractStridedSlice S16x256 ![0, 768] (res_main_while0b_v25 V0) slices_S16x1280_S16x256_0_768)))))) (Host.tanh (res_main_while0b_v59 V0))) : (Proc.devRef .tc main_while0b_v71 : DevRef τ sig).ty.Contents (Elt F)) = Cert.ReferenceIdeal.Step.b70 j s := by
  unfold Cert.ReferenceIdeal.Step.b70
  rw [← al_69 h, ← al_58 h]
  try rfl
set_option maxRecDepth 8192 in
theorem al_71 (h : Holds V0 s j) : (constant S_ .f32 0x3F800000#32 : (Proc.devRef .tc main_while0b_cst_19 : DevRef τ sig).ty.Contents (Elt F)) = Cert.ReferenceIdeal.Step.b71 j s := by
  unfold Cert.ReferenceIdeal.Step.b71
  rfl
set_option maxRecDepth 8192 in
theorem al_72 (h : Holds V0 s j) : (broadcastInDim S16x256 ![] bcast_S_S16x256 (constant S_ .f32 0x3F800000#32) : (Proc.devRef .tc main_while0b_v72 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (subf (broadcastInDim S16x256 ![] bcast_S_S16x256 (constant S_ .f32 0x3F800000#32)) (res_main_while0b_v70 V0) : (Proc.devRef .tc main_while0b_v73 : DevRef τ sig).ty.Contents (Elt F)) = Cert.ReferenceIdeal.Step.b73 j s := by
  unfold Cert.ReferenceIdeal.Step.b73
  rw [← al_72 h, ← al_69 h]
  try rfl
set_option maxRecDepth 8192 in
theorem al_74 (h : Holds V0 s j) : (extractStridedSlice S16x256 ![0, 1280] (res_main_while0b_v20 V0) slices_S16x1536_S16x256_0_1280 : (Proc.devRef .tc main_while0b_v74 : DevRef τ sig).ty.Contents (Elt F)) = Cert.ReferenceIdeal.Step.b74 j s := by
  unfold Cert.ReferenceIdeal.Step.b74
  rw [← al_11 h]
  try rfl
set_option maxRecDepth 8192 in
theorem al_75 (h : Holds V0 s j) : (mulf (subf (broadcastInDim S16x256 ![] bcast_S_S16x256 (constant S_ .f32 0x3F800000#32)) (res_main_while0b_v70 V0)) (extractStridedSlice S16x256 ![0, 1280] (res_main_while0b_v20 V0) slices_S16x1536_S16x256_0_1280) : (Proc.devRef .tc main_while0b_v75 : DevRef τ sig).ty.Contents (Elt F)) = Cert.ReferenceIdeal.Step.b75 j s := by
  unfold Cert.ReferenceIdeal.Step.b75
  rw [← al_73 h, ← al_74 h]
  try rfl
set_option maxRecDepth 8192 in
theorem al_76 (h : Holds V0 s j) : (res_main_while0b_v76 V0 : (Proc.devRef .tc main_while0b_v76 : DevRef τ sig).ty.Contents (Elt F)) = Cert.ReferenceIdeal.Step.b76 j s := by
  unfold res_main_while0b_v76 Cert.ReferenceIdeal.Step.b76
  rw [← al_70 h, ← al_75 h]
  try rfl
set_option maxRecDepth 8192 in
theorem al_77 (h : Holds V0 s j) : (res_main_while0b_v77 V0 : (Proc.devRef .tc main_while0b_v77 : DevRef τ sig).ty.Contents (Elt F)) = Cert.ReferenceIdeal.Step.b77 j s := by
  unfold res_main_while0b_v77 Cert.ReferenceIdeal.Step.b77
  rw [← al_6 h]
  try rfl
set_option maxRecDepth 8192 in
theorem al_78 (h : Holds V0 s j) : (broadcastInDim S16x256 ![0, 1] bcast_S16x1_S16x256_0_1 (res_main_while0b_v77 V0) : (Proc.devRef .tc main_while0b_call2_v0 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (select (broadcastInDim S16x256 ![0, 1] bcast_S16x1_S16x256_0_1 (res_main_while0b_v77 V0)) (res_main_while0b_v59 V0) (V0 (Proc.devRef .tc main_v10_8)) : (Proc.devRef .tc main_while0b_v78 : DevRef τ sig).ty.Contents (Elt F)) = Cert.ReferenceIdeal.Step.b79 j s := by
  unfold Cert.ReferenceIdeal.Step.b79
  rw [← al_78 h, ← al_56 h, h.f_8]
  try rfl
set_option maxRecDepth 8192 in
theorem al_80 (h : Holds V0 s j) : (broadcastInDim S16x256 ![0, 1] bcast_S16x1_S16x256_0_1 (res_main_while0b_v77 V0) : (Proc.devRef .tc main_while0b_call3_v0 : DevRef τ sig).ty.Contents (Elt F)) = Cert.ReferenceIdeal.Step.b80 j s := by
  unfold Cert.ReferenceIdeal.Step.b80
  rw [← al_77 h]
  try rfl
set_option maxRecDepth 8192 in
theorem al_81 (h : Holds V0 s j) : (select (broadcastInDim S16x256 ![0, 1] bcast_S16x1_S16x256_0_1 (res_main_while0b_v77 V0)) (res_main_while0b_v76 V0) (V0 (Proc.devRef .tc main_v10_7)) : (Proc.devRef .tc main_while0b_v79 : DevRef τ sig).ty.Contents (Elt F)) = Cert.ReferenceIdeal.Step.b81 j s := by
  unfold Cert.ReferenceIdeal.Step.b81
  rw [← al_80 h, ← al_76 h, h.f_7]
  try rfl
set_option maxRecDepth 8192 in
theorem al_82 (h : Holds V0 s j) : (constant S_ .f32 0x00000000#32 : (Proc.devRef .tc main_while0b_cst_20 : DevRef τ sig).ty.Contents (Elt F)) = Cert.ReferenceIdeal.Step.b82 j s := by
  unfold Cert.ReferenceIdeal.Step.b82
  rfl
set_option maxRecDepth 8192 in
theorem al_83 (h : Holds V0 s j) : (id (constant S_ .f32 0x00000000#32) : (Proc.devRef .tc main_while0b_call4_v0 : DevRef τ sig).ty.Contents (Elt F)) = Cert.ReferenceIdeal.Step.b83 j s := by
  unfold Cert.ReferenceIdeal.Step.b83
  rw [← al_82 h]
  try rfl
set_option maxRecDepth 8192 in
theorem al_84 (h : Holds V0 s j) : (broadcastInDim S16x256 ![0, 1] bcast_S16x1_S16x256_0_1 (res_main_while0b_v77 V0) : (Proc.devRef .tc main_while0b_call4_v1 : DevRef τ sig).ty.Contents (Elt F)) = Cert.ReferenceIdeal.Step.b84 j s := by
  unfold Cert.ReferenceIdeal.Step.b84
  rw [← al_77 h]
  try rfl
set_option maxRecDepth 8192 in
theorem al_85 (h : Holds V0 s j) : (broadcastInDim S16x256 ![] bcast_S_S16x256 (id (constant S_ .f32 0x00000000#32)) : (Proc.devRef .tc main_while0b_call4_v2 : DevRef τ sig).ty.Contents (Elt F)) = Cert.ReferenceIdeal.Step.b85 j s := by
  unfold Cert.ReferenceIdeal.Step.b85
  rw [← al_83 h]
  try rfl
set_option maxRecDepth 8192 in
theorem al_86 (h : Holds V0 s j) : (select (broadcastInDim S16x256 ![0, 1] bcast_S16x1_S16x256_0_1 (res_main_while0b_v77 V0)) (res_main_while0b_v76 V0) (broadcastInDim S16x256 ![] bcast_S_S16x256 (id (constant S_ .f32 0x00000000#32))) : (Proc.devRef .tc main_while0b_v80 : DevRef τ sig).ty.Contents (Elt F)) = Cert.ReferenceIdeal.Step.b86 j s := by
  unfold Cert.ReferenceIdeal.Step.b86
  rw [← al_84 h, ← al_76 h, ← al_85 h]
  try rfl
set_option maxRecDepth 8192 in
theorem al_87 (h : Holds V0 s j) : (broadcastInDim S1x16x256 ![1, 2] bcast_S16x256_S1x16x256_1_2 (select (broadcastInDim S16x256 ![0, 1] bcast_S16x1_S16x256_0_1 (res_main_while0b_v77 V0)) (res_main_while0b_v76 V0) (broadcastInDim S16x256 ![] bcast_S_S16x256 (id (constant S_ .f32 0x00000000#32)))) : (Proc.devRef .tc main_while0b_call5_v0 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (constantI S_ 32 0#32 : (Proc.devRef .tc main_while0b_call5_c : DevRef τ sig).ty.Contents (Elt F)) = Cert.ReferenceIdeal.Step.b88 j s := by
  unfold Cert.ReferenceIdeal.Step.b88
  rfl
set_option maxRecDepth 8192 in
theorem al_89 (h : Holds V0 s j) : (constantI S_ 32 0#32 : (Proc.devRef .tc main_while0b_call5_c_0 : DevRef τ sig).ty.Contents (Elt F)) = Cert.ReferenceIdeal.Step.b89 j s := by
  unfold Cert.ReferenceIdeal.Step.b89
  rfl
set_option maxRecDepth 8192 in
theorem al_90 (h : Holds V0 s j) : (Host.dynamicUpdateSlice (V0 (Proc.devRef .tc main_v10_9)) (broadcastInDim S1x16x256 ![1, 2] bcast_S16x256_S1x16x256_1_2 (select (broadcastInDim S16x256 ![0, 1] bcast_S16x1_S16x256_0_1 (res_main_while0b_v77 V0)) (res_main_while0b_v76 V0) (broadcastInDim S16x256 ![] bcast_S_S16x256 (id (constant S_ .f32 0x00000000#32))))) (fun k => (((![V0 (Proc.devRef .tc main_v10_6), constantI S_ 32 0#32, constantI S_ 32 0#32] : Fin 3 → (⟨S_, .i32⟩ : BufTy).Contents (Elt F))) k (Shape.Idx.first h_S_)).toInt) updateFits_S2048x16x256_S1x16x256 : (Proc.devRef .tc main_while0b_v81 : DevRef τ sig).ty.Contents (Elt F)) = Cert.ReferenceIdeal.Step.b90 j s := by
  unfold Cert.ReferenceIdeal.Step.b90
  rw [← al_87 h, ← al_88 h, ← al_89 h, h.f_9, h.n_6]
  try rfl

/-! One trip's step of the carried values is `step`, field by field; a counter steps to the next number. -/

theorem step_7 (h : Holds V0 s j) : step_main_v10_7 V0 = (step j s).main_v10_7 := by
  unfold step_main_v10_7 Cert.ReferenceIdeal.Step.step
  show id (select (broadcastInDim S16x256 ![0, 1] bcast_S16x1_S16x256_0_1 (res_main_while0b_v77 V0)) (res_main_while0b_v76 V0) (V0 (Proc.devRef .tc main_v10_7))) = _
  rw [al_81 h]
  try rfl
theorem step_8 (h : Holds V0 s j) : step_main_v10_8 V0 = (step j s).main_v10_8 := by
  unfold step_main_v10_8 Cert.ReferenceIdeal.Step.step
  show id (select (broadcastInDim S16x256 ![0, 1] bcast_S16x1_S16x256_0_1 (res_main_while0b_v77 V0)) (res_main_while0b_v59 V0) (V0 (Proc.devRef .tc main_v10_8))) = _
  rw [al_79 h]
  try rfl
theorem step_9 (h : Holds V0 s j) : step_main_v10_9 V0 = (step j s).main_v10_9 := by
  unfold step_main_v10_9 Cert.ReferenceIdeal.Step.step
  exact al_90 h
theorem step_6 (h : Holds V0 s j) : step_main_v10_6 V0 = constantI S_ 32 (BitVec.ofNat 32 (j + 1)) := by
  unfold step_main_v10_6
  rw [h.n_6]
  funext i
  show BitVec.ofNat 32 j + 1#32 = BitVec.ofNat 32 (j + 1)
  simp only [BitVec.ofNat_add]

set_option maxRecDepth 8192 in
theorem out_main_v11_holds (h : Holds V0 s j) : out_main_v11 V0 = Cert.ReferenceIdeal.Step.R_main_v11 s := by
  unfold out_main_v11 Cert.ReferenceIdeal.Step.R_main_v11
  rw [h.f_9]
  try rfl

set_option maxRecDepth 8192 in
theorem out_main_v12_holds (h : Holds V0 s j) : out_main_v12 V0 = Cert.ReferenceIdeal.Step.R_main_v12 s := by
  unfold out_main_v12 Cert.ReferenceIdeal.Step.R_main_v12
  rw [h.f_7]
  try rfl

set_option maxRecDepth 8192 in
theorem out_main_v13_holds (h : Holds V0 s j) : out_main_v13 V0 = Cert.ReferenceIdeal.Step.R_main_v13 s := by
  unfold out_main_v13 Cert.ReferenceIdeal.Step.R_main_v13
  rw [h.f_8]
  try rfl

/-- One trip keeps the valuation holding: `step` of the state, the same set-up values, the next number. -/
theorem holds_step (h : Holds V0 s j) : Holds (STEP V0) (step j s) (j + 1) where
  f_7 := (STEP_main_v10_7 V0).trans (step_7 h)
  f_8 := (STEP_main_v10_8 V0).trans (step_8 h)
  f_9 := (STEP_main_v10_9 V0).trans (step_9 h)
  n_6 := (STEP_main_v10_6 V0).trans (step_6 h)
  f_0 := (STEP_main_v10_0 V0).trans h.f_0
  f_1 := (STEP_main_v10_1 V0).trans h.f_1
  f_2 := (STEP_main_v10_2 V0).trans h.f_2
  f_3 := (STEP_main_v10_3 V0).trans h.f_3
  f_4 := (STEP_main_v10_4 V0).trans h.f_4
  f_5 := (STEP_main_v10_5 V0).trans h.f_5

/-- The state the first trip starts from, of the memory the run starts from. -/
abbrev initState (m : (ℓ : Loc nD τ sig) → Buf (Elt F) ℓ) (c : Dev nD) : State F :=
  init (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v11) = Cert.ReferenceIdeal.Step.R_main_v11 (it c 2048)
      ∧ r.2.mem ((c.tc : Thread nD τ).loc main_v12) = Cert.ReferenceIdeal.Step.R_main_v12 (it c 2048)
      ∧ r.2.mem ((c.tc : Thread nD τ).loc main_v13) = Cert.ReferenceIdeal.Step.R_main_v13 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 2048
    ⟨(h c).1.trans (out_main_v11_holds hk), (h c).2.1.trans (out_main_v12_holds hk), (h c).2.2.1.trans (out_main_v13_holds hk), (h c).2.2.2.1, (h c).2.2.2.2.1, (h c).2.2.2.2.2.1, (h c).2.2.2.2.2.2.1, (h c).2.2.2.2.2.2.2.1, (h c).2.2.2.2.2.2.2.2⟩) (Value.run m ρ)

end Cert.Highway.RefRun

end
-- ==== Proof.Results.lean ====
/- The three results as functions of the arguments: every row's outputs, the last hidden state, the last memory. -/
module

public import proofs.«01_k».proof.Proof.Model

@[expose] public section

noncomputable section

namespace Cert.Highway

open Idealize.ShloMosaic

/-- The recurrence's first result: every row's outputs. -/
def resY (A : Args) : (⟨3, ![16, 2048, 256]⟩ : Shape).Idx → EReal := fun i => row A (i 1) (pair A (i 1).val) (i 0) (i 2)

/-- The recurrence's second result: the last hidden state. -/
def resH (A : Args) : (⟨3, ![1, 16, 256]⟩ : Shape).Idx → EReal := fun i => (pair A 2048).1 (ix2 (i 1) (i 2))

/-- The recurrence's third result: the last memory. -/
def resC (A : Args) : (⟨3, ![1, 16, 256]⟩ : Shape).Idx → EReal := fun i => (pair A 2048).2 (ix2 (i 1) (i 2))

end Cert.Highway

end
-- ==== Proof.RefModel.lean ====
/- The reference's results are the recurrence's values, and its frame. -/
module

public import proofs.«01_k».proof.Proof.RefStep
public import proofs.«01_k».proof.Proof.RefRun
public import proofs.«01_k».proof.Proof.Results
public import Idealize.ShloMosaic.Lib.Quiescent

@[expose] public section

set_option maxRecDepth 16384

noncomputable section

namespace Cert.Highway

open Idealize.ShloMosaic

namespace Ref

open Cert.ReferenceIdeal Cert.ReferenceIdeal.Step

/-- The state before trip `n` holds the arguments, the pair before step `n`, and the rows written so far. -/
structure At (A : Args) (n : ℕ) (s : State Ideal) : Prop where
  holds : Holds A s
  h : s.main_v10_7 = (pair A n).1
  c : s.main_v10_8 = (pair A n).2
  y : ∀ (t : Fin 2048) (b : Fin 16) (u : Fin 256), t.val < n → s.main_v10_9 (ix3 t b u) = row A t (pair A t.val) b u

/-- One trip carries the description on. -/
theorem at_succ {A : Args} {s : State Ideal} (t : Fin 2048) (w : At A t.val s) : At A (t.val + 1) (step t.val s) := by
  have e : (s.main_v10_7, s.main_v10_8) = pair A t.val := Prod.ext w.h w.c
  refine ⟨⟨w.holds.x, w.holds.m, w.holds.wi, w.holds.bi, w.holds.ws, w.holds.bs⟩, ?_, ?_, ?_⟩
  · rw [step_main_v10_7, b81_at t w.holds, e, pair_succ]
  · rw [step_main_v10_8, b79_at t w.holds, e, pair_succ]
  · intro n b u hn
    rw [step_main_v10_9, b90_at t w.holds, e]
    split
    · next q => rw [q]
    · next q => exact w.y n b u (by have : n.val ≠ t.val := fun r => q (Fin.ext r)
                                    omega)

/-- The first state is described so. -/
theorem at_zero (A : Args) : At A 0 (init (F := Ideal) A.wi A.bi A.ws A.bs A.x A.len) := by
  refine ⟨⟨?_, ?_, rfl, rfl, rfl, rfl⟩, ?_, ?_, fun t b u h => absurd h (Nat.not_lt_zero _)⟩
  · intro t b k
    pointwise [init, A_main_v0]
  · intro t b
    pointwise [init, A_main_v6, A_main_v5, A_main_v3, K_main_v4, K_main_v2, K_main_v1]
    rfl
  · funext i
    pointwise [init, K_main_v7, K_main_cst]
    rfl
  · funext i
    pointwise [init, K_main_v8, K_main_cst_0]
    rfl

/-- Every state of the iteration is described so. -/
theorem at_all (A : Args) (it : ℕ → State Ideal) (h0 : it 0 = init (F := Ideal) A.wi A.bi A.ws A.bs A.x A.len)
    (hs : ∀ n, it (n + 1) = step n (it n)) : ∀ n, n ≤ 2048 → At A n (it n)
  | 0, _ => h0 ▸ at_zero A
  | n + 1, h => hs n ▸ at_succ ⟨n, h⟩ (at_all A it h0 hs n (by omega))

/-- The first result, read off the last state. -/
theorem v11_eq {A : Args} {s : State Ideal} (w : At A 2048 s) : R_main_v11 s = resY A := by
  funext i
  idx_vars i
  pointwise [R_main_v11]
  exact w.y _ _ _ (Fin.isLt _)

/-- The second result, read off the last state. -/
theorem v12_eq {A : Args} {s : State Ideal} (w : At A 2048 s) : R_main_v12 s = resH A := by
  funext i
  idx_vars i
  pointwise [R_main_v12]
  rw [w.h]
  rfl

/-- The third result, read off the last state. -/
theorem v13_eq {A : Args} {s : State Ideal} (w : At A 2048 s) : R_main_v13 s = resC A := by
  funext i
  idx_vars i
  pointwise [R_main_v13]
  rw [w.c]
  rfl

/-- The arguments a memory of the reference holds on a core. -/
def args (m : (ℓ : Loc nD τ sig) → Buf (Elt Ideal) ℓ) (c : Dev nD) : Args where
  x := m ((c.tc : Thread nD τ).loc main_arg0)
  len := m ((c.tc : Thread nD τ).loc main_arg1)
  wi := m ((c.tc : Thread nD τ).loc main_arg2)
  bi := m ((c.tc : Thread nD τ).loc main_arg3)
  ws := m ((c.tc : Thread nD τ).loc main_arg4)
  bs := m ((c.tc : Thread nD τ).loc main_arg5)

/-- The iteration from the first state. -/
def states {F : FTy → Type} [FloatOps F] (m : (ℓ : Loc nD τ sig) → Buf (Elt F) ℓ) (c : Dev nD) : ℕ → State F
  | 0 => Cert.Highway.RefRun.initState m c
  | n + 1 => step n (states m c n)

/-- Every execution of the reference ends with the recurrence's values as its results and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = resY (args m c)
      ∧ r.2.mem ((c.tc : Thread nD τ).loc main_v12) = resH (args m c)
      ∧ r.2.mem ((c.tc : Thread nD τ).loc main_v13) = resC (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have w := at_all (args m c) (states m c) rfl (fun _ => rfl) 2048 le_rfl
    ⟨(h c).1.trans (v11_eq w), (h c).2.1.trans (v12_eq w), (h c).2.2.1.trans (v13_eq w), (h c).2.2.2⟩)
    (Cert.Highway.RefRun.run_iter m ρ (states m) (fun _ => rfl) (fun _ _ => rfl))

/-- The reference's frame: every execution ends with its arguments unchanged and every semaphore at zero. -/
theorem frame_ri {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2.2.2, sem_eq_zero_of_no_sems (by decide) r.2⟩)
    (Cert.Highway.RefRun.run_iter m ρ (states m) (fun _ => rfl) (fun _ _ => rfl))

end Ref

end Cert.Highway

end
-- ==== Proof.Sig.lean ====
/- The gate function: half the hyperbolic tangent of half the argument, plus a half, is the logistic function, on the extended reals. -/
module

public import Idealize.ShloMosaic.PureOps.Ideal
public import Idealize.ShloMosaic.Lib.IdealHost
public import Mathlib.Analysis.SpecialFunctions.Trigonometric.DerivHyp

@[expose] public section

noncomputable section

namespace Cert.Highway

open Idealize.ShloMosaic

/-- The printed constant one half. -/
abbrev half : EReal := Ideal.ofBits .f32 0x3F000000#32

theorem half_eq : half = ((1 / 2 : ℝ) : EReal) := by
  simp [half, Ideal.ofBits, Ideal.ieee, -EReal.coe_mul]; norm_num

/-- On the reals: half the hyperbolic tangent of half the argument, plus a half, is the logistic function. -/
theorem real_sig (r : ℝ) : 1 / 2 * Real.tanh (1 / 2 * r) + 1 / 2 = 1 * (1 + Real.exp (-r))⁻¹ := by
  have hx : Real.exp (-r) = Real.exp (-(1 / 2 * r)) * Real.exp (-(1 / 2 * r)) := by rw [← Real.exp_add]; congr 1; ring
  rw [Real.tanh_eq_sinh_div_cosh, Real.sinh_eq, Real.cosh_eq, hx]
  have h1 : Real.exp (1 / 2 * r) = (Real.exp (-(1 / 2 * r)))⁻¹ := by rw [Real.exp_neg, inv_inv]
  rw [h1]
  have hp := Real.exp_pos (-(1 / 2 * r))
  generalize Real.exp (-(1 / 2 * r)) = e at hp
  field_simp
  ring

/-- The same on the extended reals, the infinities included. -/
theorem sig_eq (v : EReal) : half * Ideal.tanh (half * v) + half = Ideal.div 1 (1 + Ideal.exp (-v)) := by
  rw [half_eq]
  induction v with
  | bot =>
    rw [EReal.coe_mul_bot_of_pos (by norm_num)]
    show ((1 / 2 : ℝ) : EReal) * (-1) + ((1 / 2 : ℝ) : EReal) = Ideal.div 1 (1 + ⊤)
    rw [show (1 : EReal) + ⊤ = ⊤ from rfl, Ideal.div, if_neg (by simp), EReal.inv_top, mul_zero]
    rw [show (-1 : EReal) = ((-1 : ℝ) : EReal) from rfl, ← EReal.coe_mul, ← EReal.coe_add]
    norm_num
  | top =>
    rw [EReal.coe_mul_top_of_pos (by norm_num)]
    show ((1 / 2 : ℝ) : EReal) * 1 + ((1 / 2 : ℝ) : EReal) = Ideal.div 1 (1 + 0)
    rw [Ideal.div, add_zero, if_neg (by simp), mul_one, one_mul, ← EReal.coe_add]
    rw [show (1 : EReal) = ((1 : ℝ) : EReal) from rfl, ← EReal.coe_inv]
    norm_num
  | coe r =>
    rw [← EReal.coe_mul, ← EReal.coe_neg]
    show ((1 / 2 : ℝ) : EReal) * ((Real.tanh (1 / 2 * r) : ℝ) : EReal) + ((1 / 2 : ℝ) : EReal) = Ideal.div 1 (1 + ((Real.exp (-r) : ℝ) : EReal))
    rw [show (1 : EReal) = ((1 : ℝ) : EReal) from rfl, ← EReal.coe_add, Ideal.div, if_neg, ← EReal.coe_inv, ← EReal.coe_mul, ← EReal.coe_mul, ← EReal.coe_add,
      real_sig]
    rw [← EReal.coe_zero, EReal.coe_eq_coe_iff]
    have := Real.exp_pos (-r); positivity

end Cert.Highway

end
-- ==== Proof.KTrip.lean ====
/- What one trip of the kernel's loop computes, and what the loop leaves: the carried pair (hidden state, memory cell) as a recursion over
   the trips, and the rows the trips wrote into the output block. -/
module

public import proofs.«01_k».proof.Proof.Gen.KernelIdeal.Loops
public import Idealize.ShloMosaic.Lib.Pipeline.FrameBody
public import Idealize.ShloMosaic.Lib.ValueIdxCore

@[expose] public section

set_option maxRecDepth 16384

noncomputable section

namespace Cert.Highway.K

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

/-- The rows of one time step: the sixteen rows of the projected block that trip `k` reads. -/
def rows (P : Vec F S2048x1536 .f32) (k : Fin k0_t1_loop.trips) : Vec F S16x1536 .f32 :=
  View.ld P (Rect.unit (s := S2048x1536) (k0_off1 k) S16x1536.size (k0_off1_inb k))

/-- The counter word of trip `k`. -/
abbrev word (k : Fin k0_t1_loop.trips) : BitVec 32 := Scf.iv 0#32 1#32 k

/-- The new pair of one step, from the lengths, the recurrent weights, the step's rows and counter word and the pair before. -/
def nextPair (i : grid0.Coords) (lens : Vec F S16x1 .i32) (w : FVec F S256x1280 .bf16) (r : Vec F S16x1536 .f32) (n : BitVec 32)
    (a : Vec F S16x256 .f32 × Vec F S16x256 .f32) : Vec F S16x256 .f32 × Vec F S16x256 .f32 :=
  (k0_pay17 i lens a.1 a.2 n r (k0_pay3 w a.1 r) (k0_pay4 w a.1 r) (k0_pay5 w a.1 r) (k0_pay6 w a.1 r) (k0_pay7 w a.1 r) k0_pay8,
   k0_pay16 i lens a.2 n (k0_pay3 w a.1 r) (k0_pay4 w a.1 r) (k0_pay5 w a.1 r))

/-- The output row of one step, from the same. -/
def outRow (i : grid0.Coords) (lens : Vec F S16x1 .i32) (w : FVec F S256x1280 .bf16) (r : Vec F S16x1536 .f32) (n : BitVec 32)
    (a : Vec F S16x256 .f32 × Vec F S16x256 .f32) : Vec F S16x1x256 .f32 :=
  k0_pay18 i lens a.2 n r (k0_pay3 w a.1 r) (k0_pay4 w a.1 r) (k0_pay5 w a.1 r) (k0_pay6 w a.1 r) (k0_pay7 w a.1 r) k0_pay8

/-- The pair before trip `k`, from the pair the loop starts at (past the last trip, the last pair). -/
def pairAt (i : grid0.Coords) (lens : Vec F S16x1 .i32) (w : FVec F S256x1280 .bf16) (P : Vec F S2048x1536 .f32)
    (a : Vec F S16x256 .f32 × Vec F S16x256 .f32) : ℕ → Vec F S16x256 .f32 × Vec F S16x256 .f32
  | 0 => a
  | k + 1 => if h : k < k0_t1_loop.trips then
      nextPair i lens w (rows P ⟨k, h⟩) (word ⟨k, h⟩) (pairAt i lens w P a k)
    else pairAt i lens w P a k

variable (c : Dev nD) (i : grid0.Coords) (arg1 : Memref sig .tc .vmem S16x1 .i32) (harg1 : arg1.IsWhole) (arg2 : Memref sig .tc .vmem S16x128x256 .f32) (harg2 : arg2.IsWhole) (arg3 : Memref sig .tc .vmem S256x1536 .f32) (harg3 : arg3.IsWhole) (arg4 : Memref sig .tc .vmem S1x1536 .f32) (harg4 : arg4.IsWhole) (arg5 : Memref sig .tc .vmem S256x1280 .bf16) (harg5 : arg5.IsWhole) (arg6 : Memref sig .tc .vmem S16x128x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S2048x1536 .f32) (harg9 : arg9.IsWhole) (arg10 : Memref sig .tc .vmem S16x256 .f32) (harg10 : arg10.IsWhole) (arg11 : Memref sig .tc .vmem S16x256 .f32) (harg11 : arg11.IsWhole)

set_option maxHeartbeats 1000000 in
/-- One trip's yield is the new pair. -/
theorem tripR_eq (v16 : Vec F S16x1 .i32) (v18 : Vec F S256x1280 .bf16) (X : BufTy.Contents (Elt F) arg9.view.ty)
    (k : Fin k0_t1_loop.trips) (a : Vec F S16x256 .f32 × Vec F S16x256 .f32) :
    tripR_k0_t1 (F := F) Variants.none c none i arg1 harg1 arg2 harg2 arg3 harg3 arg4 harg4 arg5 harg5 arg6 harg6 arg7 harg7 arg8 harg8 arg9 harg9 arg10 harg10 arg11 harg11 v16 v18 X k a
      = nextPair i v16 (k0_pay12 v18) (rows (arg9.view.read (Elt F) X) k) (word k) a := by
  unfold tripR_k0_t1 trip_k0_t1
  rfl

set_option maxHeartbeats 1000000 in
/-- One trip writes one piece: its output row, at the trip's place in the block. -/
theorem tripL_eq (v16 : Vec F S16x1 .i32) (v18 : Vec F S256x1280 .bf16) (X : BufTy.Contents (Elt F) arg9.view.ty)
    (k : Fin k0_t1_loop.trips) (a : Vec F S16x256 .f32 × Vec F S16x256 .f32) :
    tripL_k0_t1 (F := F) Variants.none c none i arg1 harg1 arg2 harg2 arg3 harg3 arg4 harg4 arg5 harg5 arg6 harg6 arg7 harg7 arg8 harg8 arg9 harg9 arg10 harg10 arg11 harg11 v16 v18 X k a
      = [⟨Rect.unit (s := S16x128x256) (k0_off2 k) S16x1x256.size (k0_off2_inb k),
          outRow i v16 (k0_pay12 v18) (rows (arg9.view.read (Elt F) X) k) (word k) a⟩] := by
  unfold tripL_k0_t1 trip_k0_t1
  rfl

/-- The loop makes 128 trips. -/
theorem trips_eq : k0_t1_loop.trips = 128 := by decide +kernel

/-- Before trip `k` the loop carries the pair of the recursion. -/
theorem st_fst (v16 : Vec F S16x1 .i32) (v18 : Vec F S256x1280 .bf16) (X : BufTy.Contents (Elt F) arg9.view.ty)
    (a : Vec F S16x256 .f32 × Vec F S16x256 .f32) : ∀ k : ℕ, k ≤ k0_t1_loop.trips →
    (st_k0_t1 (F := F) Variants.none c none i arg1 harg1 arg2 harg2 arg3 harg3 arg4 harg4 arg5 harg5 arg6 harg6 arg7 harg7 arg8 harg8 arg9 harg9 arg10 harg10 arg11 harg11 v16 v18 X a k).1
      = pairAt i v16 (k0_pay12 v18) (arg9.view.read (Elt F) X) a k
  | 0, _ => rfl
  | k + 1, h => by
    rw [st_k0_t1_succ Variants.none c none i arg1 harg1 arg2 harg2 arg3 harg3 arg4 harg4 arg5 harg5 arg6 harg6 arg7 harg7 arg8 harg8 arg9 harg9 arg10 harg10 arg11 harg11 v16 v18 X a ⟨k, h⟩]
    show tripR_k0_t1 (F := F) Variants.none c none i arg1 harg1 arg2 harg2 arg3 harg3 arg4 harg4 arg5 harg5 arg6 harg6 arg7 harg7 arg8 harg8 arg9 harg9 arg10 harg10 arg11 harg11 v16 v18 X ⟨k, h⟩ _ = _
    rw [tripR_eq, st_fst v16 v18 X a k (Nat.le_of_succ_le h), pairAt, dif_pos (Nat.lt_of_succ_le h)]

/-- The block of output rows the loop leaves: at time `t` of the block the row of trip `t`. -/
def outBlock (i : grid0.Coords) (lens : Vec F S16x1 .i32) (w : FVec F S256x1280 .bf16) (P : Vec F S2048x1536 .f32)
    (a : Vec F S16x256 .f32 × Vec F S16x256 .f32) : Vec F S16x128x256 .f32 := fun y =>
  have h : (y 1).val < k0_t1_loop.trips := by rw [trips_eq]; exact (y 1).isLt
  outRow i lens w (rows P ⟨(y 1).val, h⟩) (word ⟨(y 1).val, h⟩) (pairAt i lens w P a (y 1).val)
    (ValueIdx.ix3 (n0 := 16) (n1 := 1) (n2 := 256) (y 0) 0 (y 2))

/-- An index whose time is `k` is in the piece of trip `k`, at the place its row and column name. -/
theorem emb_row (k : Fin k0_t1_loop.trips) (y : S16x128x256.Idx) (h : (y 1).val = k.val) :
    (Rect.unit (s := S16x128x256) (k0_off2 k) S16x1x256.size (k0_off2_inb k)).emb
      (ValueIdx.ix3 (n0 := 16) (n1 := 1) (n2 := 256) (y 0) 0 (y 2)) = y := by
  funext a
  apply Fin.ext
  rw [Rect.emb_apply]
  match a with
  | ⟨0, _⟩ => show k0_off2 k 0 + 1 * (y 0).val = (y 0).val; rw [k0_off2_eq]; show 0 + 1 * (y 0).val = _; omega
  | ⟨1, _⟩ => show k0_off2 k 1 + 1 * 0 = (y 1).val; rw [k0_off2_eq]; show k.val + 1 * 0 = _; omega
  | ⟨2, _⟩ => show k0_off2 k 2 + 1 * (y 2).val = (y 2).val; rw [k0_off2_eq]; show 0 + 1 * (y 2).val = _; omega

/-- An index whose time is not `k` is outside the piece of trip `k`. -/
theorem not_mem_row (k : Fin k0_t1_loop.trips) (y : S16x128x256.Idx) (h : (y 1).val ≠ k.val) :
    y ∉ (Rect.unit (s := S16x128x256) (k0_off2 k) S16x1x256.size (k0_off2_inb k)).set := by
  intro hm
  have h1 := Rect.mem_set_unit.mp hm 1
  rw [k0_off2_eq] at h1
  have h2 : k.val ≤ (y 1).val ∧ (y 1).val < k.val + 1 := h1
  omega

/-- The pieces of the trips before `k` hold the output rows of the times before `k`, whatever the buffer held. -/
theorem st_snd (v16 : Vec F S16x1 .i32) (v18 : Vec F S256x1280 .bf16) (X : BufTy.Contents (Elt F) arg9.view.ty)
    (a : Vec F S16x256 .f32 × Vec F S16x256 .f32) (v : View sig .tc .vmem S16x128x256 .f32) (f : v.ty.Contents (Elt F)) :
    ∀ k : ℕ, k ≤ k0_t1_loop.trips → ∀ y : S16x128x256.Idx, (y 1).val < k →
    v.read (Elt F) (v.writes (Elt F) f (st_k0_t1 (F := F) Variants.none c none i arg1 harg1 arg2 harg2 arg3 harg3 arg4 harg4 arg5 harg5 arg6 harg6 arg7 harg7 arg8 harg8 arg9 harg9 arg10 harg10 arg11 harg11 v16 v18 X a k).2) y
      = outBlock i v16 (k0_pay12 v18) (arg9.view.read (Elt F) X) a y
  | 0, _, y, h => absurd h (Nat.not_lt_zero _)
  | k + 1, h, y, hy => by
    rw [st_k0_t1_succ Variants.none c none i arg1 harg1 arg2 harg2 arg3 harg3 arg4 harg4 arg5 harg5 arg6 harg6 arg7 harg7 arg8 harg8 arg9 harg9 arg10 harg10 arg11 harg11 v16 v18 X a ⟨k, h⟩]
    show v.read (Elt F) (v.writes (Elt F) f (tripL_k0_t1 (F := F) Variants.none c none i arg1 harg1 arg2 harg2 arg3 harg3 arg4 harg4 arg5 harg5 arg6 harg6 arg7 harg7 arg8 harg8 arg9 harg9 arg10 harg10 arg11 harg11 v16 v18 X ⟨k, h⟩ _ ++ _)) y = _
    rw [tripL_eq, st_fst c i arg1 harg1 arg2 harg2 arg3 harg3 arg4 harg4 arg5 harg5 arg6 harg6 arg7 harg7 arg8 harg8 arg9 harg9 arg10 harg10 arg11 harg11 v16 v18 X a k (Nat.le_of_succ_le h), List.singleton_append]
    by_cases hk : (y 1).val = k
    · have he := emb_row ⟨k, h⟩ y hk
      rw [← he, View.read_writes_cons_emb, he]
      subst hk
      rfl
    · rw [View.writes_cons, View.read_slice_write_of_not_mem _ _ _ _ (by rw [Rect.map_emb_univ]; exact not_mem_row ⟨k, h⟩ y hk)]
      exact st_snd v16 v18 X a v f k (Nat.le_of_succ_le h) y (by omega)

/-- After the loop the output block holds every row. -/
theorem st_read (v16 : Vec F S16x1 .i32) (v18 : Vec F S256x1280 .bf16) (X : BufTy.Contents (Elt F) arg9.view.ty)
    (a : Vec F S16x256 .f32 × Vec F S16x256 .f32) (v : View sig .tc .vmem S16x128x256 .f32) (f : v.ty.Contents (Elt F)) :
    v.read (Elt F) (v.writes (Elt F) f (st_k0_t1 (F := F) Variants.none c none i arg1 harg1 arg2 harg2 arg3 harg3 arg4 harg4 arg5 harg5 arg6 harg6 arg7 harg7 arg8 harg8 arg9 harg9 arg10 harg10 arg11 harg11 v16 v18 X a k0_t1_loop.trips).2)
      = outBlock i v16 (k0_pay12 v18) (arg9.view.read (Elt F) X) a :=
  funext fun y => st_snd c i arg1 harg1 arg2 harg2 arg3 harg3 arg4 harg4 arg5 harg5 arg6 harg6 arg7 harg7 arg8 harg8 arg9 harg9 arg10 harg10 arg11 harg11 v16 v18 X a v f _ (Nat.le_refl _) y (by rw [trips_eq]; exact (y 1).isLt)

end Cert.Highway.K

end
-- ==== Proof.KStep.lean ====
/- One step of the kernel's loop is one step of the recurrence, on the extended reals: the gates, the memory, the output, the mask. -/
module

public import proofs.«01_k».proof.Proof.Model
public import proofs.«01_k».proof.Proof.Sig
public import proofs.«01_k».proof.Proof.KTrip
public import Idealize.ShloMosaic.Lib.Pointwise

@[expose] public section

set_option maxRecDepth 16384

noncomputable section

namespace Cert.Highway.K

open Cert.KernelIdeal Cert.KernelIdeal.Gen
open Idealize.ShloMosaic

/-- The kernel's bias of column `j`: the input's, with the state's added where the state has that column. -/
def bias (A : Args) (j : Fin 1536) : EReal :=
  A.bi (ix1 j) + (if h : j.val < 1280 then A.bs (ix1 ⟨j.val, h⟩) else 0)

/-- What a trip reads, in the arguments' terms: the lengths, the recurrent weights and the projected rows of time `t`. -/
structure Reads (A : Args) (t : Fin 2048) (lens : Vec Ideal S16x1 .i32) (w : FVec Ideal S256x1280 .bf16) (r : Vec Ideal S16x1536 .f32) : Prop where
  len : ∀ b : Fin 16, lens (ix2 b 0) = A.len (ix1 b)
  ws : ∀ (k : Fin 256) (j : Fin 1280), w (ix2 k j) = A.ws (ix2 j k)
  row : ∀ (b : Fin 16) (j : Fin 1536), r (ix2 b j) = (∑ k : Fin 256, A.x (ix3 b t k) * A.wi (ix2 j k)) + bias A j

variable {A : Args} {t : Fin 2048} {lens : Vec Ideal S16x1 .i32} {w : FVec Ideal S256x1280 .bf16} {r : Vec Ideal S16x1536 .f32}

/-- A row's column below the recurrent columns: the input's projection plus the state's bias. -/
theorem row_low (R : Reads A t lens w r) (b : Fin 16) (j : Fin 1280) :
    r (ix2 b ⟨j.val, by omega⟩) = px A t b ⟨j.val, by omega⟩ + A.bs (ix1 j) := by
  rw [R.row, bias, dif_pos j.isLt, ← add_assoc]
  rfl

/-- A row's column past the recurrent columns: the input's projection alone. -/
theorem row_high (R : Reads A t lens w r) (b : Fin 16) (u : Fin 256) :
    r (ix2 b ⟨1280 + u.val, by omega⟩) = px A t b ⟨1280 + u.val, by omega⟩ := by
  rw [R.row, bias, dif_neg (by simp), add_zero]
  rfl

/-- A gate's argument: the row's column plus the two halves of the recurrent product. -/
theorem pay2_at (R : Reads A t lens w r) (h : Vec Ideal S16x256 .f32) (b : Fin 16) (j : Fin 1280) :
    k0_pay2 w h r (ix2 b j) = px A t b ⟨j.val, by omega⟩ + ph A h b j := by
  pointwise [k0_pay2]
  rw [row_low R]
  simp only [R.ws]
  have e := Fin.sum_univ_two_halves 128 128 rfl (fun k : Fin 256 => h (ix2 b k) * A.ws (ix2 j k))
  rw [ph, add_assoc, add_comm (A.bs (ix1 j))]
  congr 2
  exact e.symm

/-- The input gate. -/
theorem pay3_at (R : Reads A t lens w r) (h : Vec Ideal S16x256 .f32) (b : Fin 16) (u : Fin 256) :
    k0_pay3 w h r (ix2 b u) = lg (arg A h t b 0 (by omega) u) := by
  pointwise [k0_pay3]
  rw [pay2_at R]
  simp only [arg, Nat.zero_add]
  exact sig_eq _

/-- The forget gate. -/
theorem pay4_at (R : Reads A t lens w r) (h : Vec Ideal S16x256 .f32) (b : Fin 16) (u : Fin 256) :
    k0_pay4 w h r (ix2 b u) = lg (arg A h t b 256 (by omega) u) := by
  pointwise [k0_pay4]
  rw [pay2_at R]
  exact sig_eq _

/-- The new-memory gate. -/
theorem pay5_at (R : Reads A t lens w r) (h : Vec Ideal S16x256 .f32) (b : Fin 16) (u : Fin 256) :
    k0_pay5 w h r (ix2 b u) = Ideal.tanh (arg A h t b 512 (by omega) u) := by
  pointwise [k0_pay5]
  rw [pay2_at R]
  rfl

/-- The output gate. -/
theorem pay6_at (R : Reads A t lens w r) (h : Vec Ideal S16x256 .f32) (b : Fin 16) (u : Fin 256) :
    k0_pay6 w h r (ix2 b u) = lg (arg A h t b 768 (by omega) u) := by
  pointwise [k0_pay6]
  rw [pay2_at R]
  exact sig_eq _

/-- The unscaled highway gate. -/
theorem pay7_at (R : Reads A t lens w r) (h : Vec Ideal S16x256 .f32) (b : Fin 16) (u : Fin 256) :
    k0_pay7 w h r (ix2 b u) = Ideal.tanh (half * arg A h t b 1024 (by omega) u) := by
  pointwise [k0_pay7]
  rw [pay2_at R]
  rfl

/-- The new memory. -/
theorem pay13_at (R : Reads A t lens w r) (a : Pair) (b : Fin 16) (u : Fin 256) :
    k0_pay13 (F := Ideal) a.2 (k0_pay3 w a.1 r) (k0_pay4 w a.1 r) (k0_pay5 w a.1 r) (ix2 b u) = mem A a t b u := by
  pointwise [k0_pay13]
  rw [pay3_at R, pay4_at R, pay5_at R]
  rfl

/-- The new output. -/
theorem pay14_at (R : Reads A t lens w r) (a : Pair) (b : Fin 16) (u : Fin 256) :
    k0_pay14 (F := Ideal) a.2 r (k0_pay3 w a.1 r) (k0_pay4 w a.1 r) (k0_pay5 w a.1 r) (k0_pay6 w a.1 r) (k0_pay7 w a.1 r) k0_pay8 (ix2 b u)
      = out A a t b u := by
  pointwise [k0_pay14, k0_pay8]
  rw [pay13_at R, pay6_at R, pay7_at R, row_high R]
  have e : Ideal.ofBits FTy.f32 1056964608#32 * Ideal.tanh (half * arg A a.1 t b 1024 (by omega) u) + Ideal.ofBits FTy.f32 1056964608#32
      = lg (arg A a.1 t b 1024 (by omega) u) := sig_eq _
  rw [e, out]
  congr 1
  rw [mul_comm (lg (arg A a.1 t b 768 _ u)), mul_assoc]

/-- The mask: the time, as the point's first time plus the trip's counter, against the row's length. -/
theorem pay15_at (R : Reads A t lens w r) (i : grid0.Coords) (n : BitVec 32)
    (hn : BitVec.ofNat 32 (i 0).val * 128#32 + n = BitVec.ofNat 32 t.val) (b : Fin 16) :
    k0_pay15 (F := Ideal) i lens n (ix2 b 0) = live A t.val b := by
  pointwise [k0_pay15]
  rw [R.len, show Scalar.addi (Scalar.muli (BitVec.ofNat 32 (i 0).val) 128#32) n = BitVec.ofNat 32 t.val from hn]
  rfl

/-- The trip's yield is the next pair. -/
theorem nextPair_eq (R : Reads A t lens w r) (i : grid0.Coords) (n : BitVec 32)
    (hn : BitVec.ofNat 32 (i 0).val * 128#32 + n = BitVec.ofNat 32 t.val) (a : Pair) :
    nextPair (F := Ideal) i lens w r n a = next A t a := by
  refine Prod.ext ?_ ?_
  · funext y
    idx_vars y
    pointwise [nextPair, k0_pay17]
    rw [pay15_at R i n hn, pay14_at R]
    rfl
  · funext y
    idx_vars y
    pointwise [nextPair, k0_pay16]
    rw [pay15_at R i n hn, pay13_at R]
    rfl

/-- The trip's output row is the step's. -/
theorem outRow_eq (R : Reads A t lens w r) (i : grid0.Coords) (n : BitVec 32)
    (hn : BitVec.ofNat 32 (i 0).val * 128#32 + n = BitVec.ofNat 32 t.val) (a : Pair) (b : Fin 16) (u : Fin 256) :
    outRow (F := Ideal) i lens w r n a (ix3 b 0 u) = row A t a b u := by
  pointwise [outRow, k0_pay18]
  rw [pay15_at R i n hn, pay14_at R]
  rfl

end Cert.Highway.K

end
-- ==== Proof.KRunA.lean ====
/- The kernel's body at one grid point, as a triple: the first point, which resets the carried pair. -/
module

public import proofs.«01_k».proof.Proof.KTrip
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Highway.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body resets its scratch: the grid coordinate is zero. -/
abbrev first (i : grid0.Coords) : Prop :=
  (Scalar.cmpi .ne (Scalar.extui (Scalar.cmpi .eq (BitVec.ofNat 32 (i 0).val) 0#32)) 0#32) = 1#1

/-- The pair a grid point ends with, from its input blocks and the pair it starts with. -/
def pointPair (i : grid0.Coords) (x0 : Vec F S16x1 .i32) (x1 : Vec F S16x128x256 .f32) (x2 : Vec F S256x1536 .f32)
    (x3 : Vec F S1x1536 .f32) (x4 : Vec F S256x1280 .bf16) (a : Vec F S16x256 .f32 × Vec F S16x256 .f32) :
    Vec F S16x256 .f32 × Vec F S16x256 .f32 :=
  pairAt i x0 (k0_pay12 x4) (k0_pay11 x1 x2 x3) a k0_t1_loop.trips

/-- The output block a grid point leaves, from the same. -/
def pointOut (i : grid0.Coords) (x0 : Vec F S16x1 .i32) (x1 : Vec F S16x128x256 .f32) (x2 : Vec F S256x1536 .f32)
    (x3 : Vec F S1x1536 .f32) (x4 : Vec F S256x1280 .bf16) (a : Vec F S16x256 .f32 × Vec F S16x256 .f32) : Vec F S16x128x256 .f32 :=
  outBlock i x0 (k0_pay12 x4) (k0_pay11 x1 x2 x3) a

/-- The pair of zeros the first grid point starts with. -/
abbrev zeroPair : Vec F S16x256 .f32 × Vec F S16x256 .f32 := (k0_pay9, k0_pay10)

theorem hz2 : (![0, 0] : Fin 2 → Nat) = fun _ => 0 := funext fun a => by fin_cases a <;> rfl
theorem hz3 : (![0, 0, 0] : Fin 3 → Nat) = fun _ => 0 := funext fun a => by fin_cases a <;> rfl

/-- The final pair depends only on the blocks' values. -/
theorem pair_congr (i : grid0.Coords) {x0 y0 : Vec F S16x1 .i32} {x1 y1 : Vec F S16x128x256 .f32} {x2 y2 : Vec F S256x1536 .f32}
    {x3 y3 : Vec F S1x1536 .f32} {x4 y4 : Vec F S256x1280 .bf16} {a1 a2 b1 b2 : Vec F S16x256 .f32}
    (h0 : x0 = y0) (h1 : x1 = y1) (h2 : x2 = y2) (h3 : x3 = y3) (h4 : x4 = y4) (ha : a1 = b1) (hb : a2 = b2) :
    pairAt i x0 (k0_pay12 x4) (k0_pay11 x1 x2 x3) (a1, a2) k0_t1_loop.trips = pointPair i y0 y1 y2 y3 y4 (b1, b2) := by
  subst h0 h1 h2 h3 h4 ha hb; rfl

/-- The output block depends only on the blocks' values. -/
theorem out_congr (i : grid0.Coords) {x0 y0 : Vec F S16x1 .i32} {x1 y1 : Vec F S16x128x256 .f32} {x2 y2 : Vec F S256x1536 .f32}
    {x3 y3 : Vec F S1x1536 .f32} {x4 y4 : Vec F S256x1280 .bf16} {a1 a2 b1 b2 : Vec F S16x256 .f32}
    (h0 : x0 = y0) (h1 : x1 = y1) (h2 : x2 = y2) (h3 : x3 = y3) (h4 : x4 = y4) (ha : a1 = b1) (hb : a2 = b2) :
    outBlock i x0 (k0_pay12 x4) (k0_pay11 x1 x2 x3) (a1, a2) = pointOut i y0 y1 y2 y3 y4 (b1, b2) := by
  subst h0 h1 h2 h3 h4 ha hb; rfl

/-- A whole-block store, last, leaves its payload. -/
theorem read_cons {S : Shape} {e : EltTy} (v : View sig .tc .vmem S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- A whole-block load of a block's contents is the block. -/
theorem load_whole {S : Shape} {e : EltTy} {r : Memref sig .tc .vmem S e} (hr : r.IsWhole) {off : Fin S.rank → Nat} (h : off = fun _ => 0)
    (inb : ∀ a, off a + S.size a ≤ S.size a) (x : S.Idx → Elt F e) :
    View.readAt (Elt F) r.view (Rect.unit off S.size inb).toLoadRect (hr.unread x) = x := by
  rw [View.readAt_eq_ld, hr.read_unread, View.ld_unit_zero h]

set_option maxHeartbeats 2000000 in
/-- At the first grid point the body, whatever the scratch holds, leaves the output block and the final pair computed from the input blocks
    and the pair of zeros. -/
theorem runA (c : Dev nD) (i : grid0.Coords) (arg1 : Memref sig .tc .vmem S16x1 .i32) (harg1 : arg1.IsWhole) (arg2 : Memref sig .tc .vmem S16x128x256 .f32) (harg2 : arg2.IsWhole) (arg3 : Memref sig .tc .vmem S256x1536 .f32) (harg3 : arg3.IsWhole) (arg4 : Memref sig .tc .vmem S1x1536 .f32) (harg4 : arg4.IsWhole) (arg5 : Memref sig .tc .vmem S256x1280 .bf16) (harg5 : arg5.IsWhole) (arg6 : Memref sig .tc .vmem S16x128x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S2048x1536 .f32) (harg9 : arg9.IsWhole) (arg10 : Memref sig .tc .vmem S16x256 .f32) (harg10 : arg10.IsWhole) (arg11 : Memref sig .tc .vmem S16x256 .f32) (harg11 : arg11.IsWhole) (hc0 : first i)
    (x0 : Vec F S16x1 .i32) (x1 : Vec F S16x128x256 .f32) (x2 : Vec F S256x1536 .f32) (x3 : Vec F S1x1536 .f32)
    (x4 : Vec F S256x1280 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (pointOut i x0 x1 x2 x3 x4 zeroPair)
            ∗ owns (c : Thread nD τ) arg7 fullShare (pointPair i x0 x1 x2 x3 x4 zeroPair).1
            ∗ owns (c : Thread nD τ) arg8 fullShare (pointPair i x0 x1 x2 x3 x4 zeroPair).2
            ∗ (∃ d, owns (c : Thread nD τ) arg9 fullShare d)
            ∗ owns (c : Thread nD τ) arg10 fullShare (pointPair i x0 x1 x2 x3 x4 zeroPair).1
            ∗ owns (c : Thread nD τ) arg11 fullShare (pointPair i x0 x1 x2 x3 x4 zeroPair).2) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (st_read c i arg1 harg1 arg2 harg2 arg3 harg3 arg4 harg4 arg5 harg5 arg6 harg6 arg7 harg7 arg8 harg8 arg9 harg9 arg10 harg10 arg11 harg11 _ _ _ _ arg6.view f5).trans ?_
    sl_unfold_words
    rw [read_cons arg9.view _ hz2]
    exact out_congr i (load_whole (F := F) harg1 hz2 _ _) (load_whole (F := F) harg2 hz3 _ _) (load_whole (F := F) harg3 hz2 _ _) (load_whole (F := F) harg4 hz2 _ _) (load_whole (F := F) harg5 hz2 _ _) (View.readCov_unit_zero (S := S16x256) arg10.view hz2 _ _) (View.readCov_unit_zero (S := S16x256) arg11.view hz2 _ _)
  isplitl [H6]
  · iexists _; isplitr; swap; · iexact H6
    ipureintro
    sl_unfold_words
    refine (read_cons arg7.view _ hz2 _ _ _).trans ?_
    refine (congrArg Prod.fst (st_fst (F := F) c i arg1 harg1 arg2 harg2 arg3 harg3 arg4 harg4 arg5 harg5 arg6 harg6 arg7 harg7 arg8 harg8 arg9 harg9 arg10 harg10 arg11 harg11 _ _ _ _ _ (Nat.le_refl _))).trans ?_
    rw [read_cons arg9.view _ hz2]
    exact congrArg Prod.fst (pair_congr i (load_whole (F := F) harg1 hz2 _ _) (load_whole (F := F) harg2 hz3 _ _) (load_whole (F := F) harg3 hz2 _ _) (load_whole (F := F) harg4 hz2 _ _) (load_whole (F := F) harg5 hz2 _ _) (View.readCov_unit_zero (S := S16x256) arg10.view hz2 _ _) (View.readCov_unit_zero (S := S16x256) arg11.view hz2 _ _))
  isplitl [H7]
  · iexists _; isplitr; swap; · iexact H7
    ipureintro
    sl_unfold_words
    refine (read_cons arg8.view _ hz2 _ _ _).trans ?_
    refine (congrArg Prod.snd (st_fst (F := F) c i arg1 harg1 arg2 harg2 arg3 harg3 arg4 harg4 arg5 harg5 arg6 harg6 arg7 harg7 arg8 harg8 arg9 harg9 arg10 harg10 arg11 harg11 _ _ _ _ _ (Nat.le_refl _))).trans ?_
    rw [read_cons arg9.view _ hz2]
    exact congrArg Prod.snd (pair_congr i (load_whole (F := F) harg1 hz2 _ _) (load_whole (F := F) harg2 hz3 _ _) (load_whole (F := F) harg3 hz2 _ _) (load_whole (F := F) harg4 hz2 _ _) (load_whole (F := F) harg5 hz2 _ _) (View.readCov_unit_zero (S := S16x256) arg10.view hz2 _ _) (View.readCov_unit_zero (S := S16x256) arg11.view hz2 _ _))
  isplitl [HS0]
  · iexists _, _; isplitr; swap; · iexact HS0
    ipureintro; rfl
  isplitl [HS1]
  · iexists _; isplitr; swap; · iexact HS1
    ipureintro
    sl_unfold_words
    refine (read_cons arg10.view _ hz2 _ _ _).trans ?_
    refine (shapeCast_self _ _).trans ?_
    refine (congrArg Prod.fst (st_fst (F := F) c i arg1 harg1 arg2 harg2 arg3 harg3 arg4 harg4 arg5 harg5 arg6 harg6 arg7 harg7 arg8 harg8 arg9 harg9 arg10 harg10 arg11 harg11 _ _ _ _ _ (Nat.le_refl _))).trans ?_
    rw [read_cons arg9.view _ hz2]
    exact congrArg Prod.fst (pair_congr i (load_whole (F := F) harg1 hz2 _ _) (load_whole (F := F) harg2 hz3 _ _) (load_whole (F := F) harg3 hz2 _ _) (load_whole (F := F) harg4 hz2 _ _) (load_whole (F := F) harg5 hz2 _ _) (View.readCov_unit_zero (S := S16x256) arg10.view hz2 _ _) (View.readCov_unit_zero (S := S16x256) arg11.view hz2 _ _))
  iexists _; isplitr; swap; · iexact HS2
  ipureintro
  sl_unfold_words
  refine (read_cons arg11.view _ hz2 _ _ _).trans ?_
  refine (shapeCast_self _ _).trans ?_
  refine (congrArg Prod.snd (st_fst (F := F) c i arg1 harg1 arg2 harg2 arg3 harg3 arg4 harg4 arg5 harg5 arg6 harg6 arg7 harg7 arg8 harg8 arg9 harg9 arg10 harg10 arg11 harg11 _ _ _ _ _ (Nat.le_refl _))).trans ?_
  rw [read_cons arg9.view _ hz2]
  exact congrArg Prod.snd (pair_congr i (load_whole (F := F) harg1 hz2 _ _) (load_whole (F := F) harg2 hz3 _ _) (load_whole (F := F) harg3 hz2 _ _) (load_whole (F := F) harg4 hz2 _ _) (load_whole (F := F) harg5 hz2 _ _) (View.readCov_unit_zero (S := S16x256) arg10.view hz2 _ _) (View.readCov_unit_zero (S := S16x256) arg11.view hz2 _ _))

end Cert.Highway.K

end
-- ==== Proof.KRunB.lean ====
/- The kernel's body at one grid point, as a triple: a later point, which starts from the pair the point before left. -/
module

public import proofs.«01_k».proof.Proof.KTrip
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp
public import proofs.«01_k».proof.Proof.KRunA

@[expose] public section

set_option maxRecDepth 16384

noncomputable section

namespace Cert.Highway.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a later grid point the body leaves the output block and the final pair computed from the input blocks and the pair its scratch
    holds. -/
theorem runB (c : Dev nD) (i : grid0.Coords) (arg1 : Memref sig .tc .vmem S16x1 .i32) (harg1 : arg1.IsWhole) (arg2 : Memref sig .tc .vmem S16x128x256 .f32) (harg2 : arg2.IsWhole) (arg3 : Memref sig .tc .vmem S256x1536 .f32) (harg3 : arg3.IsWhole) (arg4 : Memref sig .tc .vmem S1x1536 .f32) (harg4 : arg4.IsWhole) (arg5 : Memref sig .tc .vmem S256x1280 .bf16) (harg5 : arg5.IsWhole) (arg6 : Memref sig .tc .vmem S16x128x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S2048x1536 .f32) (harg9 : arg9.IsWhole) (arg10 : Memref sig .tc .vmem S16x256 .f32) (harg10 : arg10.IsWhole) (arg11 : Memref sig .tc .vmem S16x256 .f32) (harg11 : arg11.IsWhole) (hc0 : ¬first i)
    (x0 : Vec F S16x1 .i32) (x1 : Vec F S16x128x256 .f32) (x2 : Vec F S256x1536 .f32) (x3 : Vec F S1x1536 .f32)
    (x4 : Vec F S256x1280 .bf16) (a : Vec F S16x256 .f32 × Vec F S16x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ owns (c : Thread nD τ) arg10 fullShare a.1 ∗ owns (c : Thread nD τ) arg11 fullShare a.2
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (pointOut i x0 x1 x2 x3 x4 a)
            ∗ owns (c : Thread nD τ) arg7 fullShare (pointPair i x0 x1 x2 x3 x4 a).1
            ∗ owns (c : Thread nD τ) arg8 fullShare (pointPair i x0 x1 x2 x3 x4 a).2
            ∗ (∃ d, owns (c : Thread nD τ) arg9 fullShare d)
            ∗ owns (c : Thread nD τ) arg10 fullShare (pointPair i x0 x1 x2 x3 x4 a).1
            ∗ owns (c : Thread nD τ) arg11 fullShare (pointPair i x0 x1 x2 x3 x4 a).2) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg10.eq_unread hfs1; obtain rfl := harg11.eq_unread hfs2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (st_read c i arg1 harg1 arg2 harg2 arg3 harg3 arg4 harg4 arg5 harg5 arg6 harg6 arg7 harg7 arg8 harg8 arg9 harg9 arg10 harg10 arg11 harg11 _ _ _ _ arg6.view f5).trans ?_
    sl_unfold_words
    rw [read_cons arg9.view _ hz2]
    exact out_congr i (load_whole (F := F) harg1 hz2 _ _) (load_whole (F := F) harg2 hz3 _ _) (load_whole (F := F) harg3 hz2 _ _) (load_whole (F := F) harg4 hz2 _ _) (load_whole (F := F) harg5 hz2 _ _) (load_whole (F := F) harg10 hz2 _ _) (load_whole (F := F) harg11 hz2 _ _)
  isplitl [H6]
  · iexists _; isplitr; swap; · iexact H6
    ipureintro
    sl_unfold_words
    refine (read_cons arg7.view _ hz2 _ _ _).trans ?_
    refine (congrArg Prod.fst (st_fst (F := F) c i arg1 harg1 arg2 harg2 arg3 harg3 arg4 harg4 arg5 harg5 arg6 harg6 arg7 harg7 arg8 harg8 arg9 harg9 arg10 harg10 arg11 harg11 _ _ _ _ _ (Nat.le_refl _))).trans ?_
    rw [read_cons arg9.view _ hz2]
    exact congrArg Prod.fst (pair_congr i (load_whole (F := F) harg1 hz2 _ _) (load_whole (F := F) harg2 hz3 _ _) (load_whole (F := F) harg3 hz2 _ _) (load_whole (F := F) harg4 hz2 _ _) (load_whole (F := F) harg5 hz2 _ _) (load_whole (F := F) harg10 hz2 _ _) (load_whole (F := F) harg11 hz2 _ _))
  isplitl [H7]
  · iexists _; isplitr; swap; · iexact H7
    ipureintro
    sl_unfold_words
    refine (read_cons arg8.view _ hz2 _ _ _).trans ?_
    refine (congrArg Prod.snd (st_fst (F := F) c i arg1 harg1 arg2 harg2 arg3 harg3 arg4 harg4 arg5 harg5 arg6 harg6 arg7 harg7 arg8 harg8 arg9 harg9 arg10 harg10 arg11 harg11 _ _ _ _ _ (Nat.le_refl _))).trans ?_
    rw [read_cons arg9.view _ hz2]
    exact congrArg Prod.snd (pair_congr i (load_whole (F := F) harg1 hz2 _ _) (load_whole (F := F) harg2 hz3 _ _) (load_whole (F := F) harg3 hz2 _ _) (load_whole (F := F) harg4 hz2 _ _) (load_whole (F := F) harg5 hz2 _ _) (load_whole (F := F) harg10 hz2 _ _) (load_whole (F := F) harg11 hz2 _ _))
  isplitl [HS0]
  · iexists _, _; isplitr; swap; · iexact HS0
    ipureintro; rfl
  isplitl [HS1]
  · iexists _; isplitr; swap; · iexact HS1
    ipureintro
    sl_unfold_words
    refine (read_cons arg10.view _ hz2 _ _ _).trans ?_
    refine (shapeCast_self _ _).trans ?_
    refine (congrArg Prod.fst (st_fst (F := F) c i arg1 harg1 arg2 harg2 arg3 harg3 arg4 harg4 arg5 harg5 arg6 harg6 arg7 harg7 arg8 harg8 arg9 harg9 arg10 harg10 arg11 harg11 _ _ _ _ _ (Nat.le_refl _))).trans ?_
    rw [read_cons arg9.view _ hz2]
    exact congrArg Prod.fst (pair_congr i (load_whole (F := F) harg1 hz2 _ _) (load_whole (F := F) harg2 hz3 _ _) (load_whole (F := F) harg3 hz2 _ _) (load_whole (F := F) harg4 hz2 _ _) (load_whole (F := F) harg5 hz2 _ _) (load_whole (F := F) harg10 hz2 _ _) (load_whole (F := F) harg11 hz2 _ _))
  iexists _; isplitr; swap; · iexact HS2
  ipureintro
  sl_unfold_words
  refine (read_cons arg11.view _ hz2 _ _ _).trans ?_
  refine (shapeCast_self _ _).trans ?_
  refine (congrArg Prod.snd (st_fst (F := F) c i arg1 harg1 arg2 harg2 arg3 harg3 arg4 harg4 arg5 harg5 arg6 harg6 arg7 harg7 arg8 harg8 arg9 harg9 arg10 harg10 arg11 harg11 _ _ _ _ _ (Nat.le_refl _))).trans ?_
  rw [read_cons arg9.view _ hz2]
  exact congrArg Prod.snd (pair_congr i (load_whole (F := F) harg1 hz2 _ _) (load_whole (F := F) harg2 hz3 _ _) (load_whole (F := F) harg3 hz2 _ _) (load_whole (F := F) harg4 hz2 _ _) (load_whole (F := F) harg5 hz2 _ _) (load_whole (F := F) harg10 hz2 _ _) (load_whole (F := F) harg11 hz2 _ _))

end Cert.Highway.K

end
-- ==== Proof.KFrame.lean ====
/- The run of the kernel's region: what the carried pair is before each grid point, what each point leaves in the output windows, the
   proof data, the body obligation, and the run. -/
module

public import proofs.«01_k».proof.Proof.KTrip
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp
public import Idealize.ShloMosaic.Lib.Claim
public import proofs.«01_k».proof.Proof.KRunA
public import proofs.«01_k».proof.Proof.KRunB

@[expose] public section

set_option maxRecDepth 16384

noncomputable section

namespace Cert.Highway.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset condition holds at the first point only. -/
theorem first_iff : ∀ t : Fin cfg0.N, first (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val % 16 = 0)

/-! Each window's staging memref at a point, and the scratch operands. -/

abbrev st0 (t : Fin cfg0.N) : Memref sig .tc .vmem S16x1 .i32 := win0_0.stage (cfg0.slots t 0)
abbrev st1 (t : Fin cfg0.N) : Memref sig .tc .vmem S16x128x256 .f32 := win0_1.stage (cfg0.slots t 1)
abbrev st2 (t : Fin cfg0.N) : Memref sig .tc .vmem S256x1536 .f32 := win0_2.stage (cfg0.slots t 2)
abbrev st3 (t : Fin cfg0.N) : Memref sig .tc .vmem S1x1536 .f32 := win0_3.stage (cfg0.slots t 3)
abbrev st4 (t : Fin cfg0.N) : Memref sig .tc .vmem S256x1280 .bf16 := win0_4.stage (cfg0.slots t 4)
abbrev st5 (t : Fin cfg0.N) : Memref sig .tc .vmem S16x128x256 .f32 := win0_5.stage (cfg0.slots t 5)
abbrev st6 (t : Fin cfg0.N) : Memref sig .tc .vmem S16x256 .f32 := win0_6.stage (cfg0.slots t 6)
abbrev st7 (t : Fin cfg0.N) : Memref sig .tc .vmem S16x256 .f32 := win0_7.stage (cfg0.slots t 7)
abbrev sc0 : Memref sig .tc .vmem S2048x1536 .f32 := Memref.whole cc0_scratch0
abbrev sc1 : Memref sig .tc .vmem S16x256 .f32 := Memref.whole cc0_scratch1
abbrev sc2 : Memref sig .tc .vmem S16x256 .f32 := Memref.whole cc0_scratch2

/-- What the region keeps for itself, with the scratch operands owned at some contents. -/
theorem rest_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The carried pair before point `n`. -/
def pairs (c : Dev nD) : ℕ → Vec F S16x256 .f32 × Vec F S16x256 .f32
  | 0 => zeroPair
  | n + 1 => if h : n < cfg0.N then
      pointPair (grid0.coords ⟨n, h⟩) (iblk m c 0 ⟨n, h⟩) (iblk m c 1 ⟨n, h⟩) (iblk m c 2 ⟨n, h⟩) (iblk m c 3 ⟨n, h⟩) (iblk m c 4 ⟨n, h⟩) (pairs c n)
    else pairs c n

theorem pairs_succ (c : Dev nD) (t : Fin cfg0.N) :
    pairs m c (t.val + 1) = pointPair (grid0.coords t) (iblk m c 0 t) (iblk m c 1 t) (iblk m c 2 t) (iblk m c 3 t) (iblk m c 4 t) (pairs m c t.val) := by
  rw [pairs, dif_pos t.isLt]

/-- The output block point `t` leaves. -/
def outAt (c : Dev nD) (t : Fin cfg0.N) : Vec F S16x128x256 .f32 :=
  pointOut (grid0.coords t) (iblk m c 0 t) (iblk m c 1 t) (iblk m c 2 t) (iblk m c 3 t) (iblk m c 4 t) (pairs m c t.val)

/-- The region's invariant before position `n`: before the first point the scratch at anything, afterwards the two carried buffers at the pair. -/
def Inv (c : Dev nD) : (n : ℕ) → n ≤ cfg0.N → sProp 𝕄
  | 0, _ => Pipeline.ΦA spec0 c
  | n + 1, hn => iprop(iprop((∃ d, owns (c : Thread nD τ) sc0 fullShare d) ∗ owns (c : Thread nD τ) sc1 fullShare (pairs m c (n + 1)).1 ∗ owns (c : Thread nD τ) sc2 fullShare (pairs m c (n + 1)).2) ∗ (∃ r, prngReg c r))

theorem Inv_zero (c : Dev nD) (n : ℕ) (h : n ≤ cfg0.N) (hz : n = 0) : Inv m c n h = Pipeline.ΦA spec0 c := by
  subst hz; rfl

theorem Inv_pos (c : Dev nD) (n : ℕ) (h : n ≤ cfg0.N) (hz : n ≠ 0) :
    Inv m c n h = iprop(iprop((∃ d, owns (c : Thread nD τ) sc0 fullShare d) ∗ owns (c : Thread nD τ) sc1 fullShare (pairs m c n).1 ∗ owns (c : Thread nD τ) sc2 fullShare (pairs m c n).2) ∗ (∃ r, prngReg c r)) := by
  cases n with
  | zero => exact absurd rfl hz
  | succ n => rfl

/-- The proof data: the arrays as the region finds them, each input's buffer at its block, the outputs at what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => (pairs m c (t.val + 1)).1
    | ⟨7, _⟩ => (pairs m c (t.val + 1)).2
  Φ t := Inv m c t.val (Nat.le_of_lt_succ t.isLt)
  q _ := fullShare
  owed _ := 0

theorem dats_A (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]
theorem after6 (c : Dev nD) (t : Fin cfg0.N) : (dats m 0 c).after 6 t = (pairs m c (t.val + 1)).1 := by dsimp only [dats]
theorem after7 (c : Dev nD) (t : Fin cfg0.N) : (dats m 0 c).after 7 t = (pairs m c (t.val + 1)).2 := by dsimp only [dats]

theorem before0 (c : Dev nD) (t : Fin cfg0.N) (d) : (dats m 0 c).before 0 t d = iblk m c 0 t :=
  before0_0_of m (dats m 0 c) (dats_A m c 0) (after0 m c) t d
theorem before1 (c : Dev nD) (t : Fin cfg0.N) (d) : (dats m 0 c).before 1 t d = iblk m c 1 t :=
  before0_1_of m (dats m 0 c) (dats_A m c 1) (after1 m c) t d
theorem before2 (c : Dev nD) (t : Fin cfg0.N) (d) : (dats m 0 c).before 2 t d = iblk m c 2 t :=
  before0_2_of m (dats m 0 c) (dats_A m c 2) (after2 m c) t d
theorem before3 (c : Dev nD) (t : Fin cfg0.N) (d) : (dats m 0 c).before 3 t d = iblk m c 3 t :=
  before0_3_of m (dats m 0 c) (dats_A m c 3) (after3 m c) t d
theorem before4 (c : Dev nD) (t : Fin cfg0.N) (d) : (dats m 0 c).before 4 t d = iblk m c 4 t :=
  before0_4_of m (dats m 0 c) (dats_A m c 4) (after4 m c) t d

/-- What the body is called with at point `t`, window by window, -/
def pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

/-- and what it returns. -/
def post (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t))

set_option maxHeartbeats 2000000 in
/-- The body at any point takes its precondition to its postcondition. -/
theorem body_wp (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4]
  rw [show (dats m 0 c).owesAt () t.succ = (dats m 0 c).owesAt () t.castSucc from rfl,
    after0, after1, after2, after3, after4, after5, after6, after7]
  rw [show (dats m 0 c).Φ t.succ = Inv m c (t.val + 1) t.isLt from rfl, Inv_pos m c (t.val + 1) t.isLt (Nat.succ_ne_zero _),
    pairs_succ, outAt, Inv_castSucc m c t]
  have hN : t.val < 16 := lt_of_lt_of_eq t.isLt (show cfg0.N = 16 from N_0)
  by_cases hz : t.val = 0
  · rw [Inv_zero m c _ _ hz, rest_eq, show pairs m c t.val = zeroPair from by rw [hz]; rfl]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) _ _ _ _ _ _ _ _ _ _ _ _ _ _ _ _ _ _ _ _ _ _ ((first_iff t).mpr (by rw [hz])) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Inv_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runB c (grid0.coords t) _ _ _ _ _ _ _ _ _ _ _ _ _ _ _ _ _ _ _ _ _ _ (fun h => hz (by have := (first_iff t).mp h; omega)) (iblk m c 0 t) (iblk m c 1 t) (iblk m c 2 t) (iblk m c 3 t) (iblk m c 4 t) (pairs m c t.val) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_row (t : Fin cfg0.N) :
    defs₀ (F := F) .tc cfg0.body (cfg0.bodyArgs t (cfg0.slots t)) = bodyAt0 t := by
  unfold defs₀; rw [Defs.onTc_tc]

/-- The body obligation of the pipeline, at every point. -/
theorem obligation (c : Dev nD) : BodyObligation (dats (F := F) m 0 c) (defs₀ (F := F)) Variants.none () Set.univ := fun t => by
  rw [bigSep_W0, bigSep_W0, body_row]
  exact triple_restated (body_wp m c t) rfl .rfl fun _ => .rfl

theorem inv_in (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 16 := N_0; omega), rest_eq]
  iintro ⟨⟨HS0, HS1, HS2⟩, Hg⟩
  isplitl [HS0 HS1 HS2]
  · isplitl [HS0]
    · iexact HS0
    isplitl [HS1]
    · iexists _; iexact HS1
    iexists _; iexact HS2
  iexact Hg

set_option backward.isDefEq.respectTransparency.types false in
set_option maxHeartbeats 800000 in
/-- The run: it ends, every array of the region holds what the points wrote back, every other buffer what the later host lines leave, and
    every counter is zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hin := inv_in m) (hout := inv_out m)

/-- The kernel's frame: it ends with its arguments unchanged and every counter zero. -/
theorem frame_ki : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (dats_A m) ((θ_run defs _ _).mono (fun _ h => h.1) (run_all m ρ)))
    ((θ_run defs _ _).mono (fun _ h => h.2) (run_all m ρ))

end Cert.Highway.K

end
-- ==== Proof.Scatter.lean ====
/- The bias the host prepares: a scatter that adds a whole vector into a longer one at offset zero, read at an index. -/
module

public import proofs.«01_k».proof.Proof.Gen.KernelIdeal.Launch
public import Idealize.ShloMosaic.PureOps.Ideal
public import Idealize.ShloMosaic.Lib.Routing.OpsPair
public import Idealize.ShloMosaic.Lib.Pointwise

@[expose] public section

set_option maxRecDepth 16384

noncomputable section

namespace Cert.Highway.K

open Cert.KernelIdeal Cert.KernelIdeal.Gen
open Idealize.ShloMosaic

/-- A fold that adds the chosen entries of a list adds their sum. -/
theorem foldl_if_add {ι : Type} (P : ι → Prop) [DecidablePred P] (v : ι → EReal) (L : List ι) (x : EReal) :
    L.foldl (fun a n => if P n then a + v n else a) x = x + (L.map fun n => if P n then v n else 0).sum := by
  induction L generalizing x with
  | nil => simp
  | cons n L ih =>
    rw [List.foldl_cons, ih, List.map_cons, List.sum_cons, ← add_assoc]
    congr 1
    split <;> simp

/-- An update lands on the entry of its own number. -/
theorem lands (idx : IVec S1 32) (h0 : ∀ i, idx i = 0#32) (k : S1280.Idx) (e : Fin 1536) :
    scatter_S1536_S1_S1280_0_n_0_0.resultIdx? k idx = some (ix1 e) ↔ (k 0).val = e.val := by
  rw [ix1_eq_valueIdx, Routing.resultIdx?_ix1]
  have hw : scatter_S1536_S1_S1280_0_n_0_0.window k 0 = (k 0).val := by
    unfold ScatterDims.window
    rfl
  have hs : scatter_S1536_S1_S1280_0_n_0_0.start k idx 0 = 0 := by
    unfold ScatterDims.start
    split
    · exact congrArg BitVec.toInt (h0 _)
    · rfl
  rw [hw, hs]
  omega

/-- The scatter adds the shorter vector's entry where there is one. -/
theorem scatter_at (x : S1536.Idx → EReal) (idx : IVec S1 32) (h0 : ∀ i, idx i = 0#32) (u : S1280.Idx → EReal) (e : Fin 1536) :
    Host.scatter scatter_S1536_S1_S1280_0_n_0_0 (fun a b : EReal => a + b) x idx u (ix1 e)
      = x (ix1 e) + (if h : e.val < 1280 then u (ix1 ⟨e.val, h⟩) else 0) := by
  rw [Routing.scatter_at, foldl_if_add, ← Fin.sum_univ_def]
  congr 1
  simp only [lands idx h0]
  rw [Equiv.sum_comp S1280.rowMajor.symm (fun k : S1280.Idx => if (k 0).val = e.val then u k else 0)]
  split
  · next h =>
    rw [Finset.sum_eq_single (ix1 ⟨e.val, h⟩)]
    · exact if_pos rfl
    · intro k _ hk
      refine if_neg fun q => hk ?_
      funext a
      match a with
      | ⟨0, _⟩ => exact Fin.ext q
    · intro q
      exact absurd (Finset.mem_univ _) q
  · next h =>
    refine Finset.sum_eq_zero fun k _ => if_neg fun q => h ?_
    have := (k 0).isLt
    have : (k 0).val < 1280 := this
    omega

end Cert.Highway.K

end
-- ==== Proof.Prepared.lean ====
/- What the host's operations before the kernel leave in the arrays the kernel's windows read. -/
module

public import proofs.«01_k».proof.Proof.KFrame

@[expose] public section

set_option maxRecDepth 16384

noncomputable section

namespace Cert.Highway.K

open Cert.KernelIdeal Cert.KernelIdeal.Gen
open Idealize.ShloMosaic Idealize.ShloMosaic.TcCoe

variable {F : FTy → Type} [FloatOps F] (m : (ℓ : Loc nD τ sig) → Buf (Elt F) ℓ) (c : Dev nD)

/-- The lengths, as a column. -/
theorem V_len : V m c main_call0_v0 = shapeCast S16x1 (m ((c.tc : Thread nD τ).loc main_arg1)) shapeCasts_S16_S16x1 := by
  show StableHlo.after hostOps0 (fun b => m (c, b)) (Proc.devRef .tc _) = _
  simp only [hostOps0]
  after_results
  rfl

/-- The input's weights, transposed. -/
theorem V_wi : V m c main_call0_v1
    = transpose S256x1536 [1, 0] (m ((c.tc : Thread nD τ).loc main_arg2)) transposes_S1536x256_S256x1536_1_0 := by
  show StableHlo.after hostOps0 (fun b => m (c, b)) (Proc.devRef .tc _) = _
  simp only [hostOps0]
  after_results
  rfl

/-- The state's weights, transposed and narrowed. -/
theorem V_ws : V m c main_call0_v3
    = truncf (F := F) (φ := .f32) .bf16
        (transpose S256x1280 [1, 0] (m ((c.tc : Thread nD τ).loc main_arg4)) transposes_S1280x256_S256x1280_1_0) bitsLt_bf16_f32 := by
  show StableHlo.after hostOps0 (fun b => m (c, b)) (Proc.devRef .tc _) = _
  simp only [hostOps0]
  after_results
  rw [StableHlo.TRef.ofBuf_toBuf]
  unfold StableHlo.TRef.toBuf StableHlo.TRef.ofBuf
  dsimp only
  refine (cast_eq _ _).trans ?_
  refine congrArg (fun x => truncf (F := F) (φ := .f32) .bf16
    (transpose S256x1280 [1, 0] x transposes_S1280x256_S256x1280_1_0) bitsLt_bf16_f32)
    (?_ : _ = m ((c.tc : Thread nD τ).loc main_arg4))
  exact cast_eq _ _

/-- The bias: the state's added into the input's, as a row. -/
theorem V_bias : V m c main_call0_v6
    = shapeCast S1x1536 (Host.scatter scatter_S1536_S1_S1280_0_n_0_0 (FloatOps.addf (F := F) (φ := .f32))
        (m ((c.tc : Thread nD τ).loc main_arg3)) (broadcastInDim S1 ![] bcast_S_S1 (constantI S_ 32 0#32))
        (m ((c.tc : Thread nD τ).loc main_arg5))) shapeCasts_S1536_S1x1536 := by
  show StableHlo.after hostOps0 (fun b => m (c, b)) (Proc.devRef .tc _) = _
  simp only [hostOps0]
  after_results
  simp only [StableHlo.TRef.ofBuf_toBuf]
  unfold StableHlo.TRef.toBuf StableHlo.TRef.ofBuf
  dsimp only
  refine congrArg (fun y : S1536.Idx → F .f32 => shapeCast S1x1536 y shapeCasts_S1536_S1x1536) ?_
  refine (cast_eq _ _).trans ?_
  refine congrArg₂ (fun x u => Host.scatter scatter_S1536_S1_S1280_0_n_0_0 (FloatOps.addf (F := F) (φ := .f32)) x
    (broadcastInDim S1 ![] bcast_S_S1 (constantI S_ 32 0#32)) u)
    (?_ : _ = m ((c.tc : Thread nD τ).loc main_arg3)) (?_ : _ = m ((c.tc : Thread nD τ).loc main_arg5))
  · exact cast_eq _ _
  · exact cast_eq _ _

end Cert.Highway.K

end
-- ==== Proof.KBlocks.lean ====
/- What the kernel's windows read at each grid point, in the arguments' terms. -/
module

public import proofs.«01_k».proof.Proof.KStep
public import proofs.«01_k».proof.Proof.KFrame
public import proofs.«01_k».proof.Proof.Scatter
public import proofs.«01_k».proof.Proof.Prepared
public import Idealize.ShloMosaic.Lib.Claim
public import Idealize.ShloMosaic.Lib.Pointwise

@[expose] public section

set_option maxRecDepth 16384

noncomputable section

namespace Cert.Highway.K

open Cert.KernelIdeal Cert.KernelIdeal.Gen
open Idealize.ShloMosaic Idealize.ShloMosaic.TcCoe

variable (m : (ℓ : Loc nD τ sig) → Buf (Elt Ideal) ℓ) (c : Dev nD)

/-- The arguments a memory of the kernel holds on a core. -/
def args : Args where
  x := m ((c.tc : Thread nD τ).loc main_arg0)
  len := m ((c.tc : Thread nD τ).loc main_arg1)
  wi := m ((c.tc : Thread nD τ).loc main_arg2)
  bi := m ((c.tc : Thread nD τ).loc main_arg3)
  ws := m ((c.tc : Thread nD τ).loc main_arg4)
  bs := m ((c.tc : Thread nD τ).loc main_arg5)

/-! The block index of every window: only the input's and the output's blocks move, along time. -/

theorem index0 : ∀ t : Fin grid0.N, win0_0.index t 0 = 0 ∧ win0_0.index t 1 = 0 := by decide +kernel
theorem index1 : ∀ t : Fin grid0.N, win0_1.index t 0 = 0 ∧ win0_1.index t 1 = t.val ∧ win0_1.index t 2 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = t.val ∧ win0_5.index t 2 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel

theorem lt16 (t : Fin cfg0.N) : t.val < 16 := Nat.lt_of_lt_of_eq t.isLt N_0

/-- The input's block at point `t` is its rows of times `128 t` and on. -/
theorem blk1 (t : Fin cfg0.N) (b : Fin 16) (k : Fin 128) (u : Fin 256) :
    (iblk m c 1 t : Vec Ideal S16x128x256 .f32) (ix3 b k u)
      = (args m c).x (ix3 b ⟨128 * t.val + k.val, by have := lt16 t; omega⟩ u) := by
  have hi := index1 t
  unfold iblk
  rw [View.read_apply]
  show V m c main_arg0 _ = m _ _
  rw [V_main_arg0]
  congr 1
  funext a
  apply Fin.ext
  match a with
  | ⟨0, _⟩ => show win0_1.index t 0 * 16 + 1 * b.val = b.val; rw [hi.1]; omega
  | ⟨1, _⟩ => show win0_1.index t 1 * 128 + 1 * k.val = 128 * t.val + k.val; rw [hi.2.1]; omega
  | ⟨2, _⟩ => show win0_1.index t 2 * 256 + 1 * u.val = u.val; rw [hi.2.2]; omega

/-- The lengths' block is the column of the lengths. -/
theorem blk0 (t : Fin cfg0.N) (b : Fin 16) : (iblk m c 0 t : Vec Ideal S16x1 .i32) (ix2 b 0) = (args m c).len (ix1 b) := by
  have hi := index0 t
  unfold iblk
  rw [View.read_apply]
  show V m c main_call0_v0 _ = _
  rw [V_len]
  have e : ((cfg0.win 0).blk t).view.emb (ix2 b 0) = (ix2 b 0 : S16x1.Idx) := by
    funext a
    apply Fin.ext
    match a with
    | ⟨0, _⟩ => show win0_0.index t 0 * 16 + 1 * b.val = b.val; rw [hi.1]; omega
    | ⟨1, _⟩ => show win0_0.index t 1 * 1 + 1 * 0 = 0; rw [hi.2]
  rw [e]
  pointwise
  rfl

/-- The input's weights' block is the weights, transposed. -/
theorem blk2 (t : Fin cfg0.N) (k : Fin 256) (j : Fin 1536) : (iblk m c 2 t : Vec Ideal S256x1536 .f32) (ix2 k j) = (args m c).wi (ix2 j k) := by
  have hi := index2 t
  unfold iblk
  rw [View.read_apply]
  show V m c main_call0_v1 _ = _
  rw [V_wi]
  have e : ((cfg0.win 2).blk t).view.emb (ix2 k j) = (ix2 k j : S256x1536.Idx) := by
    funext a
    apply Fin.ext
    match a with
    | ⟨0, _⟩ => show win0_2.index t 0 * 256 + 1 * k.val = k.val; rw [hi.1]; omega
    | ⟨1, _⟩ => show win0_2.index t 1 * 1536 + 1 * j.val = j.val; rw [hi.2]; omega
  rw [e]
  pointwise
  rfl

/-- The state's weights' block is the weights, transposed. -/
theorem blk4 (t : Fin cfg0.N) (k : Fin 256) (j : Fin 1280) : (iblk m c 4 t : Vec Ideal S256x1280 .bf16) (ix2 k j) = (args m c).ws (ix2 j k) := by
  have hi := index4 t
  unfold iblk
  rw [View.read_apply]
  show V m c main_call0_v3 _ = _
  rw [V_ws]
  have e : ((cfg0.win 4).blk t).view.emb (ix2 k j) = (ix2 k j : S256x1280.Idx) := by
    funext a
    apply Fin.ext
    match a with
    | ⟨0, _⟩ => show win0_4.index t 0 * 256 + 1 * k.val = k.val; rw [hi.1]; omega
    | ⟨1, _⟩ => show win0_4.index t 1 * 1280 + 1 * j.val = j.val; rw [hi.2]; omega
  rw [e]
  pointwise
  rfl

/-- The bias's block. -/
theorem blk3 (t : Fin cfg0.N) (j : Fin 1536) : (iblk m c 3 t : Vec Ideal S1x1536 .f32) (ix2 0 j) = bias (args m c) j := by
  have hi := index3 t
  unfold iblk
  rw [View.read_apply]
  show V m c main_call0_v6 _ = _
  rw [V_bias]
  have e : ((cfg0.win 3).blk t).view.emb (ix2 0 j) = (ix2 0 j : S1x1536.Idx) := by
    funext a
    apply Fin.ext
    match a with
    | ⟨0, _⟩ => show win0_3.index t 0 * 1 + 1 * 0 = 0; rw [hi.1]
    | ⟨1, _⟩ => show win0_3.index t 1 * 1536 + 1 * j.val = j.val; rw [hi.2]; omega
  rw [e]
  pointwise
  exact scatter_at _ _ (fun _ => rfl) _ j

/-- A row of the projected block: the product of the input's row with the weights, plus the bias. -/
theorem proj_at (x1 : Vec Ideal S16x128x256 .f32) (x2 : Vec Ideal S256x1536 .f32) (x3 : Vec Ideal S1x1536 .f32) (k : Fin 128) (b : Fin 16)
    (j : Fin 1536) :
    k0_pay11 x1 x2 x3 (ix2 ⟨16 * k.val + b.val, by omega⟩ j) = (∑ u : Fin 256, x1 (ix3 b k u) * x2 (ix2 u j)) + x3 (ix2 0 j) := by
  pointwise [k0_pay11]

theorem lt128 (k : Fin k0_t1_loop.trips) : k.val < 128 := Nat.lt_of_lt_of_eq k.isLt trips_eq

/-- The rows trip `k` reads. -/
theorem rows_at (P : Vec Ideal S2048x1536 .f32) (k : Fin k0_t1_loop.trips) (b : Fin 16) (j : Fin 1536) :
    rows P k (ix2 b j) = P (ix2 ⟨16 * k.val + b.val, by have := lt128 k; omega⟩ j) := by
  have e := k0_off1_eq k
  pointwise [rows]
  congr 1
  congr 1 <;> apply Fin.ext <;> simp [e]

/-- At point `t` trip `k` reads what the recurrence's step `128 t + k` reads. -/
theorem reads_at (t : Fin cfg0.N) (k : Fin k0_t1_loop.trips) (n : Fin 2048) (hn : n.val = 128 * t.val + k.val) :
    Reads (args m c) n (iblk m c 0 t) (k0_pay12 (iblk m c 4 t)) (rows (k0_pay11 (iblk m c 1 t) (iblk m c 2 t) (iblk m c 3 t)) k) := by
  have hk := lt128 k
  refine ⟨fun b => blk0 m c t b, fun q j => ?_, fun b j => ?_⟩
  · pointwise [k0_pay12]
    exact blk4 m c t q j
  · rw [rows_at]
    refine (proj_at _ _ _ ⟨k.val, hk⟩ b j).trans ?_
    rw [blk3]
    simp only [blk1, blk2]
    congr 1
    refine Finset.sum_congr rfl fun u _ => ?_
    congr 3
    exact Fin.ext hn.symm

/-- The mask's word at point `t`, trip `k`. -/
theorem word_at (t : Fin cfg0.N) (k : Fin k0_t1_loop.trips) (n : Fin 2048) (hn : n.val = 128 * t.val + k.val) :
    BitVec.ofNat 32 (grid0.coords t 0).val * 128#32 + word k = BitVec.ofNat 32 n.val := by
  have ht := lt16 t
  have e0 : (grid0.coords t 0).val = t.val / 1 % 16 := Pipeline.Grid.coords_val t 0 (by decide) rfl
  rw [e0, hn, word, Scf.iv]
  apply BitVec.eq_of_toNat_eq
  have hk := lt128 k
  simp
  omega

end Cert.Highway.K

end
-- ==== Proof.KValue.lean ====
/- The kernel's results are the recurrence's values: the pair before every grid point, the output block of every point, the arrays
   after the last point, and the run. -/
module

public import proofs.«01_k».proof.Proof.KBlocks
public import proofs.«01_k».proof.Proof.Results
public import Idealize.ShloMosaic.Lib.Pipeline.Value
public import Idealize.ShloMosaic.Lib.Pointwise

@[expose] public section

set_option maxRecDepth 16384

noncomputable section

namespace Cert.Highway.K

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

/-- Within point `t` the carried pair before trip `k` is the recurrence's pair before step `128 t + k`. -/
theorem pairAt_eq (t : Fin cfg0.N) : ∀ k : ℕ, k ≤ k0_t1_loop.trips →
    pairAt (F := Ideal) (grid0.coords t) (iblk m c 0 t) (k0_pay12 (iblk m c 4 t)) (k0_pay11 (iblk m c 1 t) (iblk m c 2 t) (iblk m c 3 t))
      (pair (args m c) (128 * t.val)) k = pair (args m c) (128 * t.val + k)
  | 0, _ => rfl
  | k + 1, h => by
    have ht := lt16 t
    have hk := lt128 ⟨k, h⟩
    have hn : 128 * t.val + k < 2048 := by
      have : k < 128 := hk
      omega
    rw [pairAt, dif_pos (Nat.lt_of_succ_le h), pairAt_eq t k (Nat.le_of_succ_le h),
      nextPair_eq (reads_at m c t ⟨k, h⟩ ⟨_, hn⟩ rfl) _ _ (word_at t ⟨k, h⟩ ⟨_, hn⟩ rfl)]
    exact (pair_succ (args m c) ⟨_, hn⟩).symm

/-- Before point `n` the carried pair is the recurrence's pair before step `128 n`. -/
theorem pairs_eq : ∀ n : ℕ, n ≤ 16 → pairs m c n = pair (args m c) (128 * n)
  | 0, _ => by
    refine Prod.ext ?_ ?_
    · funext i
      pointwise [pairs, zeroPair, k0_pay9]
      rfl
    · funext i
      pointwise [pairs, zeroPair, k0_pay10]
      rfl
  | n + 1, h => by
    have hN : n < cfg0.N := Nat.lt_of_lt_of_eq (Nat.lt_of_succ_le h) N_0.symm
    rw [pairs_succ m c ⟨n, hN⟩]
    show pointPair _ _ _ _ _ _ (pairs m c n) = _
    rw [pairs_eq n (Nat.le_of_succ_le h), pointPair, pairAt_eq m c ⟨n, hN⟩ _ le_rfl, trips_eq]
    rfl

/-- The output block of point `t`: the recurrence's rows of times `128 t` and on. -/
theorem outAt_at (t : Fin cfg0.N) (b : Fin 16) (k : Fin 128) (u : Fin 256) :
    outAt m c t (ix3 b k u) = resY (args m c) (ix3 b ⟨128 * t.val + k.val, by have := lt16 t; omega⟩ u) := by
  have ht := lt16 t
  have hk : k.val < k0_t1_loop.trips := by rw [trips_eq]; exact k.isLt
  have hn : 128 * t.val + k.val < 2048 := by omega
  have e : outAt m c t (ix3 b k u) = outRow (F := Ideal) (grid0.coords t) (iblk m c 0 t) (k0_pay12 (iblk m c 4 t))
      (rows (k0_pay11 (iblk m c 1 t) (iblk m c 2 t) (iblk m c 3 t)) ⟨k.val, hk⟩) (word ⟨k.val, hk⟩)
      (pairAt (F := Ideal) (grid0.coords t) (iblk m c 0 t) (k0_pay12 (iblk m c 4 t)) (k0_pay11 (iblk m c 1 t) (iblk m c 2 t) (iblk m c 3 t))
        (pairs m c t.val) k.val) (ix3 b 0 u) := by
    rw [ix3_eq_valueIdx b 0 u]
    rfl
  rw [e, pairs_eq m c t.val (Nat.le_of_lt ht), pairAt_eq m c t k.val (Nat.le_of_lt hk),
    outRow_eq (reads_at m c t ⟨k.val, hk⟩ ⟨_, hn⟩ rfl) _ _ (word_at t ⟨k.val, hk⟩ ⟨_, hn⟩ rfl)]
  rfl

/-- The last point's number. -/
theorem last : (15 : ℕ) < cfg0.N := by rw [show cfg0.N = 16 from N_0]; decide

/-- What each point writes back to the outputs' array is its block of the recurrence's outputs. -/
theorem flushed5 (t : Fin cfg0.N) (hf : (cfg0.win 5).flush t = true) :
    (dats m 0 c).flushed 5 t = ((cfg0.win 5).blk t).view.read (Elt Ideal) (resY (args m c)) := by
  have hi := index5 t
  show (cfg0.win 5).cut (grid0.coords t) ((dats m 0 c).after 5 t) = _
  rw [after5]
  funext y
  rw [View.read_apply]
  show outAt m c t y = resY (args m c) (((cfg0.win 5).blk t).view.emb y)
  have hy : y = (ix3 (y 0) (y 1) (y 2) : S16x128x256.Idx) := by
    funext a
    match a with
    | ⟨0, _⟩ => rfl
    | ⟨1, _⟩ => rfl
    | ⟨2, _⟩ => rfl
  refine (congrArg (outAt m c t) hy).trans ((outAt_at m c t _ _ _).trans (congrArg (resY (args m c)) ?_))
  funext a
  apply Fin.ext
  match a with
  | ⟨0, _⟩ => show (y 0).val = win0_5.index t 0 * 16 + 1 * (y 0).val; rw [hi.1]; omega
  | ⟨1, _⟩ => show 128 * t.val + (y 1).val = win0_5.index t 1 * 128 + 1 * (y 1).val; rw [hi.2.1]; omega
  | ⟨2, _⟩ => show (y 2).val = win0_5.index t 2 * 256 + 1 * (y 2).val; rw [hi.2.2]; omega

/-- The outputs' array ends at the recurrence's outputs. -/
theorem final5 : (dats m 0 c).arrAt 5 cfg0.N = resY (args m c) :=
  (dats m 0 c).arrAt_eq_of_cover 5 (resY (args m c)) (flushed5 m c) fun i => by
    have h0 : (i 0).val < 16 := (i 0).isLt
    have h1 : (i 1).val < 2048 := (i 1).isLt
    have h2 : (i 2).val < 256 := (i 2).isLt
    have hN : (i 1).val / 128 < cfg0.N := by rw [show cfg0.N = 16 from N_0]; omega
    have hi := index5 ⟨_, hN⟩
    refine ⟨⟨_, hN⟩, flush0_5 _, ?_⟩
    show i ∈ ((View.whole main_v0_0).slice (win0_5.rect ⟨_, hN⟩)).set
    rw [View.set_slice_whole, Rect.mem_set_unit]
    intro a
    match a with
    | ⟨0, _⟩ =>
      show win0_5.index ⟨_, hN⟩ 0 * 16 ≤ (i 0).val ∧ (i 0).val < win0_5.index ⟨_, hN⟩ 0 * 16 + 16
      rw [hi.1]; omega
    | ⟨1, _⟩ =>
      show win0_5.index ⟨_, hN⟩ 1 * 128 ≤ (i 1).val ∧ (i 1).val < win0_5.index ⟨_, hN⟩ 1 * 128 + 128
      rw [hi.2.1]
      show (i 1).val / 128 * 128 ≤ (i 1).val ∧ (i 1).val < (i 1).val / 128 * 128 + 128
      omega
    | ⟨2, _⟩ =>
      show win0_5.index ⟨_, hN⟩ 2 * 256 ≤ (i 2).val ∧ (i 2).val < win0_5.index ⟨_, hN⟩ 2 * 256 + 256
      rw [hi.2.2]; omega

/-- The last point writes back the recurrence's last hidden state. -/
theorem flushed6 (t : Fin cfg0.N) (hf : (cfg0.win 6).flush t = true) :
    (dats m 0 c).flushed 6 t = ((cfg0.win 6).blk t).view.read (Elt Ideal) (pair (args m c) 2048).1 := by
  have ht : t.val = 15 := by
    have := (flush0_6 t).mp hf
    have := lt16 t
    omega
  have hi := index6 t
  show (cfg0.win 6).cut (grid0.coords t) ((dats m 0 c).after 6 t) = _
  rw [after6, ht, pairs_eq m c 16 le_rfl]
  have hz : (fun a => win0_6.index t a * main_call0_v7_1.ty.shape.size a) = fun _ => 0 := funext fun a => by
    match a with
    | ⟨0, _⟩ => show win0_6.index t 0 * 16 = 0; rw [hi.1]
    | ⟨1, _⟩ => show win0_6.index t 1 * 256 = 0; rw [hi.2]
  exact (Memref.read_access_unit_zero (Elt Ideal) main_call0_v7_1 hz (fun a => by rw [congrFun hz a]; simp) (pair (args m c) 2048).1).symm

/-- The hidden state's array ends at the recurrence's last hidden state. -/
theorem final6 : (dats m 0 c).arrAt 6 cfg0.N = (pair (args m c) 2048).1 :=
  (dats m 0 c).arrAt_eq_of_cover 6 (pair (args m c) 2048).1 (flushed6 m c) fun i => by
    have h0 : (i 0).val < 16 := (i 0).isLt
    have h1 : (i 1).val < 256 := (i 1).isLt
    have hi := index6 ⟨15, last⟩
    refine ⟨⟨15, last⟩, (flush0_6 _).mpr rfl, ?_⟩
    show i ∈ ((View.whole main_call0_v7_1).slice (win0_6.rect ⟨15, last⟩)).set
    rw [View.set_slice_whole, Rect.mem_set_unit]
    intro a
    match a with
    | ⟨0, _⟩ =>
      show win0_6.index ⟨15, last⟩ 0 * 16 ≤ (i 0).val ∧ (i 0).val < win0_6.index ⟨15, last⟩ 0 * 16 + 16
      rw [hi.1]; omega
    | ⟨1, _⟩ =>
      show win0_6.index ⟨15, last⟩ 1 * 256 ≤ (i 1).val ∧ (i 1).val < win0_6.index ⟨15, last⟩ 1 * 256 + 256
      rw [hi.2]; omega

/-- The last point writes back the recurrence's last memory. -/
theorem flushed7 (t : Fin cfg0.N) (hf : (cfg0.win 7).flush t = true) :
    (dats m 0 c).flushed 7 t = ((cfg0.win 7).blk t).view.read (Elt Ideal) (pair (args m c) 2048).2 := by
  have ht : t.val = 15 := by
    have := (flush0_7 t).mp hf
    have := lt16 t
    omega
  have hi := index7 t
  show (cfg0.win 7).cut (grid0.coords t) ((dats m 0 c).after 7 t) = _
  rw [after7, ht, pairs_eq m c 16 le_rfl]
  have hz : (fun a => win0_7.index t a * main_call0_v7_2.ty.shape.size a) = fun _ => 0 := funext fun a => by
    match a with
    | ⟨0, _⟩ => show win0_7.index t 0 * 16 = 0; rw [hi.1]
    | ⟨1, _⟩ => show win0_7.index t 1 * 256 = 0; rw [hi.2]
  exact (Memref.read_access_unit_zero (Elt Ideal) main_call0_v7_2 hz (fun a => by rw [congrFun hz a]; simp) (pair (args m c) 2048).2).symm

/-- The memory's array ends at the recurrence's last memory. -/
theorem final7 : (dats m 0 c).arrAt 7 cfg0.N = (pair (args m c) 2048).2 :=
  (dats m 0 c).arrAt_eq_of_cover 7 (pair (args m c) 2048).2 (flushed7 m c) fun i => by
    have h0 : (i 0).val < 16 := (i 0).isLt
    have h1 : (i 1).val < 256 := (i 1).isLt
    have hi := index7 ⟨15, last⟩
    refine ⟨⟨15, last⟩, (flush0_7 _).mpr rfl, ?_⟩
    show i ∈ ((View.whole main_call0_v7_2).slice (win0_7.rect ⟨15, last⟩)).set
    rw [View.set_slice_whole, Rect.mem_set_unit]
    intro a
    match a with
    | ⟨0, _⟩ =>
      show win0_7.index ⟨15, last⟩ 0 * 16 ≤ (i 0).val ∧ (i 0).val < win0_7.index ⟨15, last⟩ 0 * 16 + 16
      rw [hi.1]; omega
    | ⟨1, _⟩ =>
      show win0_7.index ⟨15, last⟩ 1 * 256 ≤ (i 1).val ∧ (i 1).val < win0_7.index ⟨15, last⟩ 1 * 256 + 256
      rw [hi.2]; omega

end Cert.Highway.K

end
-- ==== Proof.KRun.lean ====
/- The kernel's run: its three results are the recurrence's, and its arguments are unchanged. -/
module

public import proofs.«01_k».proof.Proof.KValue

@[expose] public section

set_option maxRecDepth 16384

noncomputable section

namespace Cert.Highway.K

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

/-- The windows' arrays are pairwise distinct. -/
theorem arrays_distinct : Function.Injective (Pipeline.arrRef spec0) := by
  intro a b h
  revert a b
  decide

/-- A `16×256` array given a leading dimension of one. -/
theorem lead (v : S16x256.Idx → EReal) (i : S1x16x256.Idx) :
    broadcastInDim (α := EReal) (s := S16x256) S1x16x256 ![1, 2] bcast_S16x256_S1x16x256_1_2 v i = v (ix2 (i 1) (i 2)) := by
  idx_vars i
  pointwise []
  all_goals rfl

/-- What the host lines after the region leave in the second result. -/
theorem tail_h : Pipeline.afterTail₀ cfgs (dats m) 0 (V0 m) [hostOps1] c main_v0_1 = resH (args m c) := by
  unfold Pipeline.afterTail₀
  have e : Pipeline.withArrays (cfgs 0).spec c (V0 m c) (fun w => (dats m 0 c).arrAt w (cfgs 0).N) (Proc.devRef .tc main_call0_v7_1)
      = (pair (args m c) 2048).1 :=
    (Pipeline.withArrays_arr spec0 arrays_distinct c (V0 m c) (fun w => (dats m 0 c).arrAt w cfg0.N) 6).trans (final6 m c)
  simp only [hostOps1, List.flatten_cons, List.flatten_nil, List.append_nil]
  after_results
  funext i
  refine (congrFun (congrArg (broadcastInDim (α := EReal) (s := S16x256) S1x16x256 ![1, 2] bcast_S16x256_S1x16x256_1_2) e) i).trans ?_
  exact lead _ i

/-- What the host lines after the region leave in the third result. -/
theorem tail_c : Pipeline.afterTail₀ cfgs (dats m) 0 (V0 m) [hostOps1] c main_v0_2 = resC (args m c) := by
  unfold Pipeline.afterTail₀
  have e : Pipeline.withArrays (cfgs 0).spec c (V0 m c) (fun w => (dats m 0 c).arrAt w (cfgs 0).N) (Proc.devRef .tc main_call0_v7_2)
      = (pair (args m c) 2048).2 :=
    (Pipeline.withArrays_arr spec0 arrays_distinct c (V0 m c) (fun w => (dats m 0 c).arrAt w cfg0.N) 7).trans (final7 m c)
  simp only [hostOps1, List.flatten_cons, List.flatten_nil, List.append_nil]
  after_results
  funext i
  refine (congrFun (congrArg (broadcastInDim (α := EReal) (s := S16x256) S1x16x256 ![1, 2] bcast_S16x256_S1x16x256_1_2) e) i).trans ?_
  exact lead _ i

/-- Every execution of the kernel ends with the recurrence's values as its results and its arguments unchanged. -/
theorem run : θ_run (defs (F := Ideal)) (onTc (τ := τ) (main (F := Ideal))) ⟨m, fun _ => 0, ρ⟩ fun r => ∀ c : Dev nD,
      r.2.mem ((c.tc : Thread nD τ).loc main_v0_0) = resY (args m c)
      ∧ r.2.mem ((c.tc : Thread nD τ).loc main_v0_1) = resH (args m c)
      ∧ r.2.mem ((c.tc : Thread nD τ).loc main_v0_2) = resC (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h.1.1 c).1 5).trans (final5 m c),
      ((h.1.1 c).2 main_v0_1 (Pipeline.mem_restRefs_of main_v0_1 (by decide) (by decide))).trans (tail_h m c),
      ((h.1.1 c).2 main_v0_2 (Pipeline.mem_restRefs_of main_v0_2 (by decide) (by decide))).trans (tail_c m c), h.2.1 c⟩)
    (θ_run_and (run_all m ρ) (frame_ki m ρ))

end Cert.Highway.K

end
-- ==== Proof.lean ====
module

public import proofs.«01_k».proof.Defs
public import proofs.«01_k».proof.Proof.WFrame
public import proofs.«01_k».proof.Proof.RefModel
public import proofs.«01_k».proof.Proof.KRun
public import Idealize.ShloMosaic.Adequacy
public import Idealize.ShloMosaic.Init

@[expose] public section

noncomputable section

namespace Cert.Proof

open Idealize.ShloMosaic Idealize.SL.Sem

/-- Given arguments that agree, the kernel's three results are the reference's three results, each the recurrence's. -/
theorem algebraic : Cert.algebraic_KernelIdeal_ReferenceIdeal (hKernelIdeal := Cert.KernelIdeal.Gen.facts)
    (hReferenceIdeal := Cert.ReferenceIdeal.Gen.facts) := by
  intro m g m' g' _ h
  have e : ∀ c, Cert.Highway.Ref.args m' c = Cert.Highway.K.args m c := fun c => by
    obtain ⟨h0, h1, h2, h3, h4, h5⟩ := h c
    unfold Cert.Highway.Ref.args Cert.Highway.K.args
    rw [h0, h1, h2, h3, h4, h5]
  refine ⟨fun c => Cert.Highway.resY (Cert.Highway.K.args m c), fun c => Cert.Highway.resH (Cert.Highway.K.args m c),
    fun c => Cert.Highway.resC (Cert.Highway.K.args m c), Cert.Highway.K.run m g, ?_⟩
  refine (θ_run _ _ _).mono (fun _ w c => ?_) (Cert.Highway.Ref.run m' g')
  obtain ⟨w0, w1, w2, w3⟩ := w c
  exact ⟨w0.trans (congrArg _ (e c)), w1.trans (congrArg _ (e c)), w2.trans (congrArg _ (e c)), w3⟩

/-- The certificate's claims, all five. -/
theorem claim : Cert.Claim := ⟨Cert.Kernel.Gen.facts, Cert.KernelIdeal.Gen.facts, Cert.ReferenceIdeal.Gen.facts,
  fun m g _ => Cert.Highway.W.frame_k m g, fun m g _ => Cert.Highway.K.frame_ki m g, fun m g _ => Cert.Highway.Ref.frame_ri m g,
  trivial, algebraic⟩

end Cert.Proof

end
